-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  IdealRules.named_const.Statement Cert.KernelIdeal.κ "log2e_over_tau" .f32 0x3DB8AA3B#32 (((Real.log 2)⁻¹ * (1 / 16) : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v18_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v3) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v53) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
-- ==== Pre_finite.lean ====
abbrev S2x8192x8192 : Shape := ⟨3, ![2, 8192, 8192]⟩
abbrev S2x8192x128 : Shape := ⟨3, ![2, 8192, 128]⟩
abbrev S1x16x512 : Shape := ⟨3, ![1, 16, 512]⟩
abbrev S1x512 : Shape := ⟨2, ![1, 512]⟩
abbrev S2x4x128x256 : Shape := ⟨4, ![2, 4, 128, 256]⟩
abbrev S1x2048x8192 : Shape := ⟨3, ![1, 2048, 8192]⟩
abbrev S1x1024x2048 : Shape := ⟨3, ![1, 1024, 2048]⟩
abbrev S1x2048x2048 : Shape := ⟨3, ![1, 2048, 2048]⟩
abbrev S_ : Shape := ⟨0, ![]⟩

class Facts : Prop where
  bitsLt_bf16_f32 : FTy.bits .bf16 < FTy.bits .f32
  bcast_S_S2x8192x8192 : S_.BroadcastsInDim S2x8192x8192 (![] : Fin 0 → Fin S2x8192x8192.rank)
  bcast_S_S2x8192x128 : S_.BroadcastsInDim S2x8192x128 (![] : Fin 0 → Fin S2x8192x128.rank)
  bcast_S_S1x16x512 : S_.BroadcastsInDim S1x16x512 (![] : Fin 0 → Fin S1x16x512.rank)
  bcast_S_S1x512 : S_.BroadcastsInDim S1x512 (![] : Fin 0 → Fin S1x512.rank)
  bcast_S_S2x4x128x256 : S_.BroadcastsInDim S2x4x128x256 (![] : Fin 0 → Fin S2x4x128x256.rank)

variable [Facts]

def fn {F : FTy → Type} [FloatOps F] (main_arg0 : FVec F S2x8192x8192 .bf16) (main_arg1 : FVec F S2x8192x128 .f32) (main_arg2 : FVec F S1x16x512 .f32) (main_arg3 : FVec F S1x512 .f32) (main_arg4 : FVec F S1x16x512 .f32) (main_arg5 : FVec F S1x512 .f32) (main_arg6 : FVec F S2x4x128x256 .f32) (main_arg7 : FVec F S2x4x128x256 .f32) (main_arg8 : FVec F S1x2048x8192 .f32) (main_arg9 : FVec F S1x1024x2048 .f32) (main_arg10 : FVec F S1x1024x2048 .f32) (main_arg11 : FVec F S1x2048x2048 .f32) : IVec S2x8192x8192 1 × IVec S2x8192x128 1 × IVec S1x16x512 1 × IVec S1x512 1 × IVec S2x4x128x256 1 :=
  let main_v0 : FVec F S2x8192x8192 .f32 := (extf .f32 · bitsLt_bf16_f32) main_arg0
  let main_v1 : FVec F S2x8192x8192 .f32 := Host.absf main_v0
  let main_cst : FVec F S_ .f32 := constant S_ .f32 0x7F800000#32
  let main_v2 : FVec F S2x8192x8192 .f32 := broadcastInDim S2x8192x8192 ![] bcast_S_S2x8192x8192 main_cst
  let main_v3 : IVec S2x8192x8192 1 := cmpf .olt main_v1 main_v2
  let main_v4 : FVec F S2x8192x128 .f32 := Host.absf main_arg1
  let main_cst_0 : FVec F S_ .f32 := constant S_ .f32 0x7F800000#32
  let main_v5 : FVec F S2x8192x128 .f32 := broadcastInDim S2x8192x128 ![] bcast_S_S2x8192x128 main_cst_0
  let main_v6 : IVec S2x8192x128 1 := cmpf .olt main_v4 main_v5
  let main_v7 : FVec F S1x16x512 .f32 := Host.absf main_arg2
  let main_cst_1 : FVec F S_ .f32 := constant S_ .f32 0x7F800000#32
  let main_v8 : FVec F S1x16x512 .f32 := broadcastInDim S1x16x512 ![] bcast_S_S1x16x512 main_cst_1
  let main_v9 : IVec S1x16x512 1 := cmpf .olt main_v7 main_v8
  let main_v10 : FVec F S1x512 .f32 := Host.absf main_arg3
  let main_cst_2 : FVec F S_ .f32 := constant S_ .f32 0x7F800000#32
  let main_v11 : FVec F S1x512 .f32 := broadcastInDim S1x512 ![] bcast_S_S1x512 main_cst_2
  let main_v12 : IVec S1x512 1 := cmpf .olt main_v10 main_v11
  let main_v13 : FVec F S2x4x128x256 .f32 := Host.absf main_arg6
  let main_cst_3 : FVec F S_ .f32 := constant S_ .f32 0x7F800000#32
  let main_v14 : FVec F S2x4x128x256 .f32 := broadcastInDim S2x4x128x256 ![] bcast_S_S2x4x128x256 main_cst_3
  let main_v15 : IVec S2x4x128x256 1 := cmpf .olt main_v13 main_v14
  (main_v3, main_v6, main_v9, main_v12, main_v15)
-- ==== Kernel.lean ====
abbrev S2x8192x8192 : Shape := ⟨3, ![2, 8192, 8192]⟩
abbrev S2x8192x128 : Shape := ⟨3, ![2, 8192, 128]⟩
abbrev S1x16x512 : Shape := ⟨3, ![1, 16, 512]⟩
abbrev S1x512 : Shape := ⟨2, ![1, 512]⟩
abbrev S2x4x128x256 : Shape := ⟨4, ![2, 4, 128, 256]⟩
abbrev S1x2048x8192 : Shape := ⟨3, ![1, 2048, 8192]⟩
abbrev S1x1024x2048 : Shape := ⟨3, ![1, 1024, 2048]⟩
abbrev S1x2048x2048 : Shape := ⟨3, ![1, 2048, 2048]⟩
abbrev S16x512 : Shape := ⟨2, ![16, 512]⟩
abbrev S_ : Shape := ⟨0, ![]⟩
abbrev S128x512 : Shape := ⟨2, ![128, 512]⟩
abbrev S1 : Shape := ⟨1, ![1]⟩
abbrev S512 : Shape := ⟨1, ![512]⟩
abbrev S2048x8192 : Shape := ⟨2, ![2048, 8192]⟩
abbrev S1024x2048 : Shape := ⟨2, ![1024, 2048]⟩
abbrev S2048x2048 : Shape := ⟨2, ![2048, 2048]⟩
abbrev S2x8192x1024 : Shape := ⟨3, ![2, 8192, 1024]⟩
abbrev S1x512x1024 : Shape := ⟨3, ![1, 512, 1024]⟩
abbrev S1x512x128 : Shape := ⟨3, ![1, 512, 128]⟩
abbrev S1x4x128x256 : Shape := ⟨4, ![1, 4, 128, 256]⟩
abbrev S64x8192 : Shape := ⟨2, ![64, 8192]⟩
abbrev S32x2048 : Shape := ⟨2, ![32, 2048]⟩
abbrev S64x2048 : Shape := ⟨2, ![64, 2048]⟩
abbrev S4x128x256 : Shape := ⟨3, ![4, 128, 256]⟩
abbrev S128x128 : Shape := ⟨2, ![128, 128]⟩
abbrev S1x128x256 : Shape := ⟨3, ![1, 128, 256]⟩
abbrev S128x256 : Shape := ⟨2, ![128, 256]⟩
abbrev S1x128x128 : Shape := ⟨3, ![1, 128, 128]⟩
abbrev S128x1024 : Shape := ⟨2, ![128, 1024]⟩
abbrev S1x128 : Shape := ⟨2, ![1, 128]⟩
abbrev S256x256 : Shape := ⟨2, ![256, 256]⟩

abbrev nBuf : Space → Nat
  | .hbm => 42
  | .vmem => 45
  | .smem => 0
  | _ => 0

abbrev bufTy : (tb : Table) → Fin (tcTables nBuf tb) → BufTy
  | .hbm, ⟨0, _⟩ => ⟨S2x8192x8192, .bf16⟩
  | .hbm, ⟨1, _⟩ => ⟨S2x8192x128, .f32⟩
  | .hbm, ⟨2, _⟩ => ⟨S1x16x512, .f32⟩
  | .hbm, ⟨3, _⟩ => ⟨S1x512, .f32⟩
  | .hbm, ⟨4, _⟩ => ⟨S1x16x512, .f32⟩
  | .hbm, ⟨5, _⟩ => ⟨S1x512, .f32⟩
  | .hbm, ⟨6, _⟩ => ⟨S2x4x128x256, .f32⟩
  | .hbm, ⟨7, _⟩ => ⟨S2x4x128x256, .f32⟩
  | .hbm, ⟨8, _⟩ => ⟨S1x2048x8192, .f32⟩
  | .hbm, ⟨9, _⟩ => ⟨S1x1024x2048, .f32⟩
  | .hbm, ⟨10, _⟩ => ⟨S1x1024x2048, .f32⟩
  | .hbm, ⟨11, _⟩ => ⟨S1x2048x2048, .f32⟩
  | .hbm, ⟨12, _⟩ => ⟨S16x512, .f32⟩
  | .hbm, ⟨13, _⟩ => ⟨S_, .f32⟩
  | .hbm, ⟨14, _⟩ => ⟨S128x512, .f32⟩
  | .hbm, ⟨15, _⟩ => ⟨S_, .i32⟩
  | .hbm, ⟨16, _⟩ => ⟨S1, .i32⟩
  | .hbm, ⟨17, _⟩ => ⟨S128x512, .f32⟩
  | .hbm, ⟨18, _⟩ => ⟨S128x512, .bf16⟩
  | .hbm, ⟨19, _⟩ => ⟨S16x512, .f32⟩
  | .hbm, ⟨20, _⟩ => ⟨S_, .f32⟩
  | .hbm, ⟨21, _⟩ => ⟨S128x512, .f32⟩
  | .hbm, ⟨22, _⟩ => ⟨S_, .i32⟩
  | .hbm, ⟨23, _⟩ => ⟨S1, .i32⟩
  | .hbm, ⟨24, _⟩ => ⟨S128x512, .f32⟩
  | .hbm, ⟨25, _⟩ => ⟨S128x512, .bf16⟩
  | .hbm, ⟨26, _⟩ => ⟨S512, .f32⟩
  | .hbm, ⟨27, _⟩ => ⟨S1x512, .f32⟩
  | .hbm, ⟨28, _⟩ => ⟨S512, .f32⟩
  | .hbm, ⟨29, _⟩ => ⟨S1x512, .f32⟩
  | .hbm, ⟨30, _⟩ => ⟨S2048x8192, .f32⟩
  | .hbm, ⟨31, _⟩ => ⟨S1024x2048, .f32⟩
  | .hbm, ⟨32, _⟩ => ⟨S1024x2048, .f32⟩
  | .hbm, ⟨33, _⟩ => ⟨S2048x2048, .f32⟩
  | .hbm, ⟨34, _⟩ => ⟨S2x8192x1024, .bf16⟩
  | .hbm, ⟨35, _⟩ => ⟨S2x8192x1024, .bf16⟩
  | .hbm, ⟨36, _⟩ => ⟨S2x4x128x256, .f32⟩
  | .hbm, ⟨37, _⟩ => ⟨S2x4x128x256, .f32⟩
  | .hbm, ⟨38, _⟩ => ⟨S2048x8192, .bf16⟩
  | .hbm, ⟨39, _⟩ => ⟨S1024x2048, .bf16⟩
  | .hbm, ⟨40, _⟩ => ⟨S1024x2048, .bf16⟩
  | .hbm, ⟨41, _⟩ => ⟨S2048x2048, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x512x1024, .bf16⟩
  | .local _ .vmem, ⟨3, _⟩ => ⟨S1x512x1024, .bf16⟩
  | .local _ .vmem, ⟨4, _⟩ => ⟨S1x512x128, .f32⟩
  | .local _ .vmem, ⟨5, _⟩ => ⟨S1x512x128, .f32⟩
  | .local _ .vmem, ⟨6, _⟩ => ⟨S1x512x1024, .bf16⟩
  | .local _ .vmem, ⟨7, _⟩ => ⟨S1x512x1024, .bf16⟩
  | .local _ .vmem, ⟨8, _⟩ => ⟨S1x512x1024, .bf16⟩
  | .local _ .vmem, ⟨9, _⟩ => ⟨S1x512x1024, .bf16⟩
  | .local _ .vmem, ⟨10, _⟩ => ⟨S1x512x128, .f32⟩
  | .local _ .vmem, ⟨11, _⟩ => ⟨S1x512x128, .f32⟩
  | .local _ .vmem, ⟨12, _⟩ => ⟨S128x512, .bf16⟩
  | .local _ .vmem, ⟨13, _⟩ => ⟨S1x512, .f32⟩
  | .local _ .vmem, ⟨14, _⟩ => ⟨S128x512, .bf16⟩
  | .local _ .vmem, ⟨15, _⟩ => ⟨S1x512, .f32⟩
  | .local _ .vmem, ⟨16, _⟩ => ⟨S1x4x128x256, .f32⟩
  | .local _ .vmem, ⟨17, _⟩ => ⟨S1x4x128x256, .f32⟩
  | .local _ .vmem, ⟨18, _⟩ => ⟨S1x4x128x256, .f32⟩
  | .local _ .vmem, ⟨19, _⟩ => ⟨S1x4x128x256, .f32⟩
  | .local _ .vmem, ⟨20, _⟩ => ⟨S64x8192, .f32⟩
  | .local _ .vmem, ⟨21, _⟩ => ⟨S64x8192, .f32⟩
  | .local _ .vmem, ⟨22, _⟩ => ⟨S32x2048, .f32⟩
  | .local _ .vmem, ⟨23, _⟩ => ⟨S32x2048, .f32⟩
  | .local _ .vmem, ⟨24, _⟩ => ⟨S32x2048, .f32⟩
  | .local _ .vmem, ⟨25, _⟩ => ⟨S32x2048, .f32⟩
  | .local _ .vmem, ⟨26, _⟩ => ⟨S64x2048, .f32⟩
  | .local _ .vmem, ⟨27, _⟩ => ⟨S64x2048, .f32⟩
  | .local _ .vmem, ⟨28, _⟩ => ⟨S1x512x1024, .bf16⟩
  | .local _ .vmem, ⟨29, _⟩ => ⟨S1x512x1024, .bf16⟩
  | .local _ .vmem, ⟨30, _⟩ => ⟨S1x512x1024, .bf16⟩
  | .local _ .vmem, ⟨31, _⟩ => ⟨S1x512x1024, .bf16⟩
  | .local _ .vmem, ⟨32, _⟩ => ⟨S1x4x128x256, .f32⟩
  | .local _ .vmem, ⟨33, _⟩ => ⟨S1x4x128x256, .f32⟩
  | .local _ .vmem, ⟨34, _⟩ => ⟨S1x4x128x256, .f32⟩
  | .local _ .vmem, ⟨35, _⟩ => ⟨S1x4x128x256, .f32⟩
  | .local _ .vmem, ⟨36, _⟩ => ⟨S64x8192, .bf16⟩
  | .local _ .vmem, ⟨37, _⟩ => ⟨S64x8192, .bf16⟩
  | .local _ .vmem, ⟨38, _⟩ => ⟨S32x2048, .bf16⟩
  | .local _ .vmem, ⟨39, _⟩ => ⟨S32x2048, .bf16⟩
  | .local _ .vmem, ⟨40, _⟩ => ⟨S32x2048, .bf16⟩
  | .local _ .vmem, ⟨41, _⟩ => ⟨S32x2048, .bf16⟩
  | .local _ .vmem, ⟨42, _⟩ => ⟨S64x2048, .bf16⟩
  | .local _ .vmem, ⟨43, _⟩ => ⟨S64x2048, .bf16⟩
  | .local _ .vmem, ⟨44, _⟩ => ⟨S2x4x128x256, .f32⟩
  | _, _ => ⟨S2x8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_cst : Ref sig .tc := ⟨.hbm, 13, rfl⟩
abbrev main_v1 : Ref sig .tc := ⟨.hbm, 14, rfl⟩
abbrev main_c : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_0 : Ref sig .tc := ⟨.hbm, 20, rfl⟩
abbrev main_v6 : Ref sig .tc := ⟨.hbm, 21, rfl⟩
abbrev main_c_1 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18_0 : Ref sig .tc := ⟨.hbm, 34, rfl⟩
abbrev main_v18_1 : Ref sig .tc := ⟨.hbm, 35, rfl⟩
abbrev main_v18_2 : Ref sig .tc := ⟨.hbm, 36, rfl⟩
abbrev main_v18_3 : Ref sig .tc := ⟨.hbm, 37, rfl⟩
abbrev main_v18_4 : Ref sig .tc := ⟨.hbm, 38, rfl⟩
abbrev main_v18_5 : Ref sig .tc := ⟨.hbm, 39, rfl⟩
abbrev main_v18_6 : Ref sig .tc := ⟨.hbm, 40, rfl⟩
abbrev main_v18_7 : Ref sig .tc := ⟨.hbm, 41, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_stg19_0 : Ref sig .tc := ⟨.vmem, 34, rfl⟩
abbrev cc0_stg19_1 : Ref sig .tc := ⟨.vmem, 35, rfl⟩
abbrev cc0_stg20_0 : Ref sig .tc := ⟨.vmem, 36, rfl⟩
abbrev cc0_stg20_1 : Ref sig .tc := ⟨.vmem, 37, rfl⟩
abbrev cc0_stg21_0 : Ref sig .tc := ⟨.vmem, 38, rfl⟩
abbrev cc0_stg21_1 : Ref sig .tc := ⟨.vmem, 39, rfl⟩
abbrev cc0_stg22_0 : Ref sig .tc := ⟨.vmem, 40, rfl⟩
abbrev cc0_stg22_1 : Ref sig .tc := ⟨.vmem, 41, rfl⟩
abbrev cc0_stg23_0 : Ref sig .tc := ⟨.vmem, 42, rfl⟩
abbrev cc0_stg23_1 : Ref sig .tc := ⟨.vmem, 43, rfl⟩
abbrev cc0_scratch0 : Ref sig .tc := ⟨.vmem, 44, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33
abbrev cc0_sem19_0 : DmaSem sig := 34
abbrev cc0_sem19_1 : DmaSem sig := 35
abbrev cc0_sem20_0 : DmaSem sig := 36
abbrev cc0_sem20_1 : DmaSem sig := 37
abbrev cc0_sem21_0 : DmaSem sig := 38
abbrev cc0_sem21_1 : DmaSem sig := 39
abbrev cc0_sem22_0 : DmaSem sig := 40
abbrev cc0_sem22_1 : DmaSem sig := 41
abbrev cc0_sem23_0 : DmaSem sig := 42
abbrev cc0_sem23_1 : DmaSem sig := 43

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v2109 : BitVec 1 := Scalar.cmpi .eq arg1 c15_i32
  let v2110 : BitVec 32 := Scalar.extui v2109
  let c0_i32_812 : BitVec 32 := 0#32
  let v2111 : BitVec 1 := Scalar.cmpi .ne v2110 c0_i32_812
  v2111

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, arg1.toNat, c1_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_4 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c1_i32 : BitVec 32 := 1#32
  let c0_i32 : BitVec 32 := 0#32
  ![arg0.toNat, v0.toNat, c1_i32.toNat]

def cc0_transform_5 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_14 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_15 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![arg0.toNat, v0.toNat, c0_i32.toNat]

def cc0_transform_18 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_19 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_20 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_21 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_22 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_23 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S128x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S128x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S1x4x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x4x128x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S64x8192 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S32x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S32x2048 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S64x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x1024 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x4x128x256 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]

abbrev stage0_19 : Fin 2 → Memref sig .tc .vmem S1x4x128x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, false]

abbrev stage0_20 : Fin 2 → Memref sig .tc .vmem S64x8192 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S32x2048 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S32x2048 .bf16 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S64x2048 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]
-- ==== KernelIdeal.lean ====
variable {F : FTy → Type} [FloatOps F] [Named F]
def κ : String → Option EReal := fun
  | "log2e_over_tau" => some (((Real.log 2)⁻¹ * (1 / 16) : ℝ) : EReal)
  | _ => none
-- ==== ReferenceIdeal.lean ====
abbrev S2x8192x8192 : Shape := ⟨3, ![2, 8192, 8192]⟩
abbrev S2x8192x128 : Shape := ⟨3, ![2, 8192, 128]⟩
abbrev S1x16x512 : Shape := ⟨3, ![1, 16, 512]⟩
abbrev S1x512 : Shape := ⟨2, ![1, 512]⟩
abbrev S2x4x128x256 : Shape := ⟨4, ![2, 4, 128, 256]⟩
abbrev S1x2048x8192 : Shape := ⟨3, ![1, 2048, 8192]⟩
abbrev S1x1024x2048 : Shape := ⟨3, ![1, 1024, 2048]⟩
abbrev S1x2048x2048 : Shape := ⟨3, ![1, 2048, 2048]⟩
abbrev S2x8192x512 : Shape := ⟨3, ![2, 8192, 512]⟩
abbrev S2x8192x4x128 : Shape := ⟨4, ![2, 8192, 4, 128]⟩
abbrev S_ : Shape := ⟨0, ![]⟩
abbrev S2x8192x1024 : Shape := ⟨3, ![2, 8192, 1024]⟩
abbrev S2x8192x4x256 : Shape := ⟨4, ![2, 8192, 4, 256]⟩
abbrev S2x8192x16 : Shape := ⟨3, ![2, 8192, 16]⟩
abbrev S16x512 : Shape := ⟨2, ![16, 512]⟩
abbrev S512 : Shape := ⟨1, ![512]⟩
abbrev S1x1x512 : Shape := ⟨3, ![1, 1, 512]⟩
abbrev S8192x2x4x128 : Shape := ⟨4, ![8192, 2, 4, 128]⟩
abbrev S8192x2x4x256 : Shape := ⟨4, ![8192, 2, 4, 256]⟩
abbrev S1x2x4x128 : Shape := ⟨4, ![1, 2, 4, 128]⟩
abbrev S2x4x128 : Shape := ⟨3, ![2, 4, 128]⟩
abbrev S1x2x4x256 : Shape := ⟨4, ![1, 2, 4, 256]⟩
abbrev S2x4x256 : Shape := ⟨3, ![2, 4, 256]⟩
abbrev S2x4x128x1 : Shape := ⟨4, ![2, 4, 128, 1]⟩
abbrev S2x4x1x256 : Shape := ⟨4, ![2, 4, 1, 256]⟩

abbrev nBuf : Space → Nat
  | .hbm => 113
  | .vmem => 0
  | .smem => 0
  | _ => 0

abbrev bufTy : (tb : Table) → Fin (tcTables nBuf tb) → BufTy
  | .hbm, ⟨0, _⟩ => ⟨S2x8192x8192, .bf16⟩
  | .hbm, ⟨1, _⟩ => ⟨S2x8192x128, .f32⟩
  | .hbm, ⟨2, _⟩ => ⟨S1x16x512, .f32⟩
  | .hbm, ⟨3, _⟩ => ⟨S1x512, .f32⟩
  | .hbm, ⟨4, _⟩ => ⟨S1x16x512, .f32⟩
  | .hbm, ⟨5, _⟩ => ⟨S1x512, .f32⟩
  | .hbm, ⟨6, _⟩ => ⟨S2x4x128x256, .f32⟩
  | .hbm, ⟨7, _⟩ => ⟨S2x4x128x256, .f32⟩
  | .hbm, ⟨8, _⟩ => ⟨S1x2048x8192, .f32⟩
  | .hbm, ⟨9, _⟩ => ⟨S1x1024x2048, .f32⟩
  | .hbm, ⟨10, _⟩ => ⟨S1x1024x2048, .f32⟩
  | .hbm, ⟨11, _⟩ => ⟨S1x2048x2048, .f32⟩
  | .hbm, ⟨12, _⟩ => ⟨S2x8192x512, .bf16⟩
  | .hbm, ⟨13, _⟩ => ⟨S2x8192x512, .f32⟩
  | .hbm, ⟨14, _⟩ => ⟨S2x8192x4x128, .f32⟩
  | .hbm, ⟨15, _⟩ => ⟨S_, .f32⟩
  | .hbm, ⟨16, _⟩ => ⟨S_, .f32⟩
  | .hbm, ⟨17, _⟩ => ⟨S2x8192x4x128, .f32⟩
  | .hbm, ⟨18, _⟩ => ⟨S2x8192x4x128, .f32⟩
  | .hbm, ⟨19, _⟩ => ⟨S2x8192x512, .bf16⟩
  | .hbm, ⟨20, _⟩ => ⟨S2x8192x512, .f32⟩
  | .hbm, ⟨21, _⟩ => ⟨S2x8192x4x128, .f32⟩
  | .hbm, ⟨22, _⟩ => ⟨S2x8192x1024, .bf16⟩
  | .hbm, ⟨23, _⟩ => ⟨S2x8192x1024, .f32⟩
  | .hbm, ⟨24, _⟩ => ⟨S2x8192x4x256, .f32⟩
  | .hbm, ⟨25, _⟩ => ⟨S2x8192x16, .f32⟩
  | .hbm, ⟨26, _⟩ => ⟨S16x512, .f32⟩
  | .hbm, ⟨27, _⟩ => ⟨S2x8192x512, .f32⟩
  | .hbm, ⟨28, _⟩ => ⟨S512, .f32⟩
  | .hbm, ⟨29, _⟩ => ⟨S1x1x512, .f32⟩
  | .hbm, ⟨30, _⟩ => ⟨S2x8192x512, .f32⟩
  | .hbm, ⟨31, _⟩ => ⟨S2x8192x512, .f32⟩
  | .hbm, ⟨32, _⟩ => ⟨S2x8192x512, .f32⟩
  | .hbm, ⟨33, _⟩ => ⟨S_, .f32⟩
  | .hbm, ⟨34, _⟩ => ⟨S2x8192x512, .f32⟩
  | .hbm, ⟨35, _⟩ => ⟨S2x8192x512, .f32⟩
  | .hbm, ⟨36, _⟩ => ⟨S2x8192x512, .f32⟩
  | .hbm, ⟨37, _⟩ => ⟨S2x8192x512, .f32⟩
  | .hbm, ⟨38, _⟩ => ⟨S2x8192x512, .i1⟩
  | .hbm, ⟨39, _⟩ => ⟨S2x8192x512, .f32⟩
  | .hbm, ⟨40, _⟩ => ⟨S2x8192x512, .f32⟩
  | .hbm, ⟨41, _⟩ => ⟨S2x8192x512, .f32⟩
  | .hbm, ⟨42, _⟩ => ⟨S2x8192x512, .f32⟩
  | .hbm, ⟨43, _⟩ => ⟨S2x8192x512, .f32⟩
  | .hbm, ⟨44, _⟩ => ⟨S2x8192x512, .f32⟩
  | .hbm, ⟨45, _⟩ => ⟨S2x8192x512, .f32⟩
  | .hbm, ⟨46, _⟩ => ⟨S2x8192x512, .f32⟩
  | .hbm, ⟨47, _⟩ => ⟨S2x8192x512, .f32⟩
  | .hbm, ⟨48, _⟩ => ⟨S_, .f32⟩
  | .hbm, ⟨49, _⟩ => ⟨S2x8192x512, .f32⟩
  | .hbm, ⟨50, _⟩ => ⟨S2x8192x512, .f32⟩
  | .hbm, ⟨51, _⟩ => ⟨S2x8192x4x128, .f32⟩
  | .hbm, ⟨52, _⟩ => ⟨S8192x2x4x128, .f32⟩
  | .hbm, ⟨53, _⟩ => ⟨S8192x2x4x128, .f32⟩
  | .hbm, ⟨54, _⟩ => ⟨S8192x2x4x256, .f32⟩
  | .hbm, ⟨55, _⟩ => ⟨S8192x2x4x128, .f32⟩
  | .hbm, ⟨56, _⟩ => ⟨S_, .f32⟩
  | .hbm, ⟨57, _⟩ => ⟨S8192x2x4x256, .f32⟩
  | .hbm, ⟨58, _⟩ => ⟨S_, .i32⟩
  | .hbm, ⟨59, _⟩ => ⟨S8192x2x4x128, .f32⟩
  | .hbm, ⟨60, _⟩ => ⟨S8192x2x4x128, .f32⟩
  | .hbm, ⟨61, _⟩ => ⟨S8192x2x4x256, .f32⟩
  | .hbm, ⟨62, _⟩ => ⟨S8192x2x4x128, .f32⟩
  | .hbm, ⟨63, _⟩ => ⟨S_, .i32⟩
  | .hbm, ⟨64, _⟩ => ⟨S2x4x128x256, .f32⟩
  | .hbm, ⟨65, _⟩ => ⟨S8192x2x4x256, .f32⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S1x2x4x128, .f32⟩
  | .hbm, ⟨72, _⟩ => ⟨S2x4x128, .f32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S1x2x4x128, .f32⟩
  | .hbm, ⟨77, _⟩ => ⟨S2x4x128, .f32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S1x2x4x256, .f32⟩
  | .hbm, ⟨82, _⟩ => ⟨S2x4x256, .f32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S1x2x4x128, .f32⟩
  | .hbm, ⟨87, _⟩ => ⟨S2x4x128, .f32⟩
  | .hbm, ⟨88, _⟩ => ⟨S2x4x128, .f32⟩
  | .hbm, ⟨89, _⟩ => ⟨S2x4x128x1, .f32⟩
  | .hbm, ⟨90, _⟩ => ⟨S2x4x128x256, .f32⟩
  | .hbm, ⟨91, _⟩ => ⟨S2x4x128x256, .f32⟩
  | .hbm, ⟨92, _⟩ => ⟨S2x4x128x1, .f32⟩
  | .hbm, ⟨93, _⟩ => ⟨S2x4x1x256, .f32⟩
  | .hbm, ⟨94, _⟩ => ⟨S2x4x128x256, .f32⟩
  | .hbm, ⟨95, _⟩ => ⟨S2x4x128x256, .f32⟩
  | .hbm, ⟨96, _⟩ => ⟨S2x4x128x256, .f32⟩
  | .hbm, ⟨97, _⟩ => ⟨S2x4x128x256, .f32⟩
  | .hbm, ⟨98, _⟩ => ⟨S2x4x128x1, .f32⟩
  | .hbm, ⟨99, _⟩ => ⟨S2x4x128x256, .f32⟩
  | .hbm, ⟨100, _⟩ => ⟨S2x4x128x256, .f32⟩
  | .hbm, ⟨101, _⟩ => ⟨S_, .f32⟩
  | .hbm, ⟨102, _⟩ => ⟨S2x4x256, .f32⟩
  | .hbm, ⟨103, _⟩ => ⟨S1x2x4x256, .f32⟩
  | .hbm, ⟨104, _⟩ => ⟨S_, .i32⟩
  | .hbm, ⟨105, _⟩ => ⟨S_, .i32⟩
  | .hbm, ⟨106, _⟩ => ⟨S_, .i32⟩
  | .hbm, ⟨107, _⟩ => ⟨S8192x2x4x256, .f32⟩
  | .hbm, ⟨108, _⟩ => ⟨S_, .i32⟩
  | .hbm, ⟨109, _⟩ => ⟨S_, .i32⟩
  | .hbm, ⟨110, _⟩ => ⟨S2x8192x4x256, .f32⟩
  | .hbm, ⟨111, _⟩ => ⟨S2x8192x1024, .f32⟩
  | .hbm, ⟨112, _⟩ => ⟨S2x8192x1024, .bf16⟩
  | _, _ => ⟨S2x8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_cst : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_v0 : Ref sig .tc := ⟨.hbm, 32, rfl⟩
abbrev main_call0_call0_cst : Ref sig .tc := ⟨.hbm, 33, rfl⟩
abbrev main_call0_call0_v0 : Ref sig .tc := ⟨.hbm, 34, rfl⟩
abbrev main_call0_call0_v1 : Ref sig .tc := ⟨.hbm, 35, rfl⟩
abbrev main_call0_call0_v2 : Ref sig .tc := ⟨.hbm, 36, rfl⟩
abbrev main_call0_call0_v3 : Ref sig .tc := ⟨.hbm, 37, rfl⟩
abbrev main_call0_call0_v4 : Ref sig .tc := ⟨.hbm, 38, rfl⟩
abbrev main_call0_call0_v5 : Ref sig .tc := ⟨.hbm, 39, rfl⟩
abbrev main_call0_call0_v6 : Ref sig .tc := ⟨.hbm, 40, rfl⟩
abbrev main_call0_call0_v7 : Ref sig .tc := ⟨.hbm, 41, rfl⟩
abbrev main_call0_call0_v8 : Ref sig .tc := ⟨.hbm, 42, rfl⟩
abbrev main_call0_call0_v9 : Ref sig .tc := ⟨.hbm, 43, rfl⟩
abbrev main_call0_call0_v10 : Ref sig .tc := ⟨.hbm, 44, rfl⟩
abbrev main_call0_call0_v11 : Ref sig .tc := ⟨.hbm, 45, rfl⟩
abbrev main_call0_v1 : Ref sig .tc := ⟨.hbm, 46, rfl⟩
abbrev main_v19 : Ref sig .tc := ⟨.hbm, 47, rfl⟩
abbrev main_cst_0 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_1 : Ref sig .tc := ⟨.hbm, 56, rfl⟩
abbrev main_v27 : Ref sig .tc := ⟨.hbm, 57, rfl⟩
abbrev main_c : Ref sig .tc := ⟨.hbm, 58, rfl⟩
abbrev main_v28_0 : Ref sig .tc := ⟨.hbm, 59, rfl⟩
abbrev main_v28_1 : Ref sig .tc := ⟨.hbm, 60, rfl⟩
abbrev main_v28_2 : Ref sig .tc := ⟨.hbm, 61, rfl⟩
abbrev main_v28_3 : Ref sig .tc := ⟨.hbm, 62, rfl⟩
abbrev main_v28_4 : Ref sig .tc := ⟨.hbm, 63, rfl⟩
abbrev main_v28_5 : Ref sig .tc := ⟨.hbm, 64, rfl⟩
abbrev main_v28_6 : Ref sig .tc := ⟨.hbm, 65, rfl⟩
abbrev main_while0c_c_8 : Ref sig .tc := ⟨.hbm, 66, rfl⟩
abbrev main_while0c_v32 : Ref sig .tc := ⟨.hbm, 67, rfl⟩
abbrev main_while0b_call1_c : Ref sig .tc := ⟨.hbm, 68, rfl⟩
abbrev main_while0b_call1_c_0 : Ref sig .tc := ⟨.hbm, 69, rfl⟩
abbrev main_while0b_call1_c_1 : Ref sig .tc := ⟨.hbm, 70, rfl⟩
abbrev main_while0b_call1_v0 : Ref sig .tc := ⟨.hbm, 71, rfl⟩
abbrev main_while0b_v32 : Ref sig .tc := ⟨.hbm, 72, rfl⟩
abbrev main_while0b_call2_c : Ref sig .tc := ⟨.hbm, 73, rfl⟩
abbrev main_while0b_call2_c_0 : Ref sig .tc := ⟨.hbm, 74, rfl⟩
abbrev main_while0b_call2_c_1 : Ref sig .tc := ⟨.hbm, 75, rfl⟩
abbrev main_while0b_call2_v0 : Ref sig .tc := ⟨.hbm, 76, rfl⟩
abbrev main_while0b_v33 : Ref sig .tc := ⟨.hbm, 77, rfl⟩
abbrev main_while0b_call3_c : Ref sig .tc := ⟨.hbm, 78, rfl⟩
abbrev main_while0b_call3_c_0 : Ref sig .tc := ⟨.hbm, 79, rfl⟩
abbrev main_while0b_call3_c_1 : Ref sig .tc := ⟨.hbm, 80, rfl⟩
abbrev main_while0b_call3_v0 : Ref sig .tc := ⟨.hbm, 81, rfl⟩
abbrev main_while0b_v34 : Ref sig .tc := ⟨.hbm, 82, rfl⟩
abbrev main_while0b_call4_c : Ref sig .tc := ⟨.hbm, 83, rfl⟩
abbrev main_while0b_call4_c_0 : Ref sig .tc := ⟨.hbm, 84, rfl⟩
abbrev main_while0b_call4_c_1 : Ref sig .tc := ⟨.hbm, 85, rfl⟩
abbrev main_while0b_call4_v0 : Ref sig .tc := ⟨.hbm, 86, rfl⟩
abbrev main_while0b_v35 : Ref sig .tc := ⟨.hbm, 87, rfl⟩
abbrev main_while0b_v36 : Ref sig .tc := ⟨.hbm, 88, rfl⟩
abbrev main_while0b_v37 : Ref sig .tc := ⟨.hbm, 89, rfl⟩
abbrev main_while0b_v38 : Ref sig .tc := ⟨.hbm, 90, rfl⟩
abbrev main_while0b_v39 : Ref sig .tc := ⟨.hbm, 91, rfl⟩
abbrev main_while0b_v40 : Ref sig .tc := ⟨.hbm, 92, rfl⟩
abbrev main_while0b_v41 : Ref sig .tc := ⟨.hbm, 93, rfl⟩
abbrev main_while0b_v42 : Ref sig .tc := ⟨.hbm, 94, rfl⟩
abbrev main_while0b_v43 : Ref sig .tc := ⟨.hbm, 95, rfl⟩
abbrev main_while0b_v44 : Ref sig .tc := ⟨.hbm, 96, rfl⟩
abbrev main_while0b_v45 : Ref sig .tc := ⟨.hbm, 97, rfl⟩
abbrev main_while0b_v46 : Ref sig .tc := ⟨.hbm, 98, rfl⟩
abbrev main_while0b_v47 : Ref sig .tc := ⟨.hbm, 99, rfl⟩
abbrev main_while0b_v48 : Ref sig .tc := ⟨.hbm, 100, rfl⟩
abbrev main_while0b_cst_8 : Ref sig .tc := ⟨.hbm, 101, rfl⟩
abbrev main_while0b_v49 : Ref sig .tc := ⟨.hbm, 102, rfl⟩
abbrev main_while0b_call5_v0 : Ref sig .tc := ⟨.hbm, 103, rfl⟩
abbrev main_while0b_call5_c : Ref sig .tc := ⟨.hbm, 104, rfl⟩
abbrev main_while0b_call5_c_0 : Ref sig .tc := ⟨.hbm, 105, rfl⟩
abbrev main_while0b_call5_c_1 : Ref sig .tc := ⟨.hbm, 106, rfl⟩
abbrev main_while0b_v50 : Ref sig .tc := ⟨.hbm, 107, rfl⟩
abbrev main_while0b_c_9 : Ref sig .tc := ⟨.hbm, 108, rfl⟩
abbrev main_while0b_v51 : Ref sig .tc := ⟨.hbm, 109, rfl⟩
abbrev main_v29 : Ref sig .tc := ⟨.hbm, 110, rfl⟩
abbrev main_v30 : Ref sig .tc := ⟨.hbm, 111, rfl⟩
abbrev main_v31 : Ref sig .tc := ⟨.hbm, 112, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S16384x2048 : Shape := ⟨2, ![16384, 2048]⟩
abbrev S8x1x8192 : Shape := ⟨3, ![8, 1, 8192]⟩
abbrev S1x2048 : Shape := ⟨2, ![1, 2048]⟩
abbrev S2048x8192 : Shape := ⟨2, ![2048, 8192]⟩
abbrev S8192x2048 : Shape := ⟨2, ![8192, 2048]⟩
abbrev S2048 : Shape := ⟨1, ![2048]⟩
abbrev S512x2048 : Shape := ⟨2, ![512, 2048]⟩
abbrev S128x2048 : Shape := ⟨2, ![128, 2048]⟩
abbrev S1x1x2048 : Shape := ⟨3, ![1, 1, 2048]⟩
abbrev S2048x2048 : Shape := ⟨2, ![2048, 2048]⟩
abbrev S512 : Shape := ⟨1, ![512]⟩
abbrev S512x1 : Shape := ⟨2, ![512, 1]⟩
abbrev S128 : Shape := ⟨1, ![128]⟩
abbrev S128x1 : Shape := ⟨2, ![128, 1]⟩

abbrev nBuf : Space → Nat
  | .hbm => 10
  | .vmem => 24
  | .smem => 0
  | _ => 0

abbrev bufTy : (tb : Table) → Fin (tcTables nBuf tb) → BufTy
  | .hbm, ⟨0, _⟩ => ⟨S16384x2048, .f32⟩
  | .hbm, ⟨1, _⟩ => ⟨S8x1x8192, .f32⟩
  | .hbm, ⟨2, _⟩ => ⟨S1x2048, .f32⟩
  | .hbm, ⟨3, _⟩ => ⟨S2048x8192, .bf16⟩
  | .hbm, ⟨4, _⟩ => ⟨S8192x2048, .bf16⟩
  | .hbm, ⟨5, _⟩ => ⟨S2048, .f32⟩
  | .hbm, ⟨6, _⟩ => ⟨S2048, .f32⟩
  | .hbm, ⟨7, _⟩ => ⟨S1x2048, .f32⟩
  | .hbm, ⟨8, _⟩ => ⟨S1x2048, .f32⟩
  | .hbm, ⟨9, _⟩ => ⟨S16384x2048, .f32⟩
  | .local _ .vmem, ⟨0, _⟩ => ⟨S512x2048, .f32⟩
  | .local _ .vmem, ⟨1, _⟩ => ⟨S512x2048, .f32⟩
  | .local _ .vmem, ⟨2, _⟩ => ⟨S128x2048, .f32⟩
  | .local _ .vmem, ⟨3, _⟩ => ⟨S128x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S1x1x2048, .f32⟩
  | .local _ .vmem, ⟨8, _⟩ => ⟨S1x1x2048, .f32⟩
  | .local _ .vmem, ⟨9, _⟩ => ⟨S1x1x2048, .f32⟩
  | .local _ .vmem, ⟨10, _⟩ => ⟨S1x1x2048, .f32⟩
  | .local _ .vmem, ⟨11, _⟩ => ⟨S1x1x2048, .f32⟩
  | .local _ .vmem, ⟨12, _⟩ => ⟨S1x1x2048, .f32⟩
  | .local _ .vmem, ⟨13, _⟩ => ⟨S1x1x2048, .f32⟩
  | .local _ .vmem, ⟨14, _⟩ => ⟨S1x2048, .f32⟩
  | .local _ .vmem, ⟨15, _⟩ => ⟨S2048x2048, .bf16⟩
  | .local _ .vmem, ⟨16, _⟩ => ⟨S2048x2048, .bf16⟩
  | .local _ .vmem, ⟨17, _⟩ => ⟨S2048x2048, .bf16⟩
  | .local _ .vmem, ⟨18, _⟩ => ⟨S2048x2048, .bf16⟩
  | .local _ .vmem, ⟨19, _⟩ => ⟨S1x2048, .f32⟩
  | .local _ .vmem, ⟨20, _⟩ => ⟨S512x2048, .f32⟩
  | .local _ .vmem, ⟨21, _⟩ => ⟨S512x2048, .f32⟩
  | .local _ .vmem, ⟨22, _⟩ => ⟨S512x2048, .bf16⟩
  | .local _ .vmem, ⟨23, _⟩ => ⟨S512x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c0_i32_2 : BitVec 32 := 0#32
  let v5 : BitVec 1 := Scalar.cmpi .eq arg1 c0_i32_2
  let v10 : BitVec 32 := Scalar.extui v5
  let c0_i32_5 : BitVec 32 := 0#32
  let v11 : BitVec 1 := Scalar.cmpi .ne v10 c0_i32_5
  v11

def k0_mult1 (i : grid0.Coords) : BitVec 32 :=
  let arg1 : BitVec 32 := BitVec.ofNat 32 (i 1).val
  let c128_i32 : BitVec 32 := 128#32
  let v16 : BitVec 32 := Scalar.muli arg1 c128_i32
  v16
def k0_off1 (i : grid0.Coords) : Fin 2 → Nat :=
  let arg1 : BitVec 32 := BitVec.ofNat 32 (i 1).val
  let c128_i32 : BitVec 32 := 128#32
  let v16 : BitVec 32 := Scalar.muli arg1 c128_i32
  let v17 : BitVec 32 := v16
  let v44 : Index := Scalar.indexCast v17
  let c0_20 : Index := 0#32
  ![v44.toNat, 0]
def k0_cond3 (i : grid0.Coords) : BitVec 1 :=
  let arg1 : BitVec 32 := BitVec.ofNat 32 (i 1).val
  let c0_i32_3 : BitVec 32 := 0#32
  let v6 : BitVec 1 := Scalar.cmpi .sgt arg1 c0_i32_3
  let c3_i32 : BitVec 32 := 3#32
  let v7 : BitVec 1 := Scalar.cmpi .slt arg1 c3_i32
  let v8 : BitVec 1 := Scalar.andi v6 v7
  let v12 : BitVec 32 := Scalar.extui v8
  let c0_i32_6 : BitVec 32 := 0#32
  let v13 : BitVec 1 := Scalar.cmpi .ne v12 c0_i32_6
  v13

def k0_mult2 (i : grid0.Coords) : BitVec 32 :=
  let arg1 : BitVec 32 := BitVec.ofNat 32 (i 1).val
  let c128_i32 : BitVec 32 := 128#32
  let v16 : BitVec 32 := Scalar.muli arg1 c128_i32
  v16
def k0_off2 (i : grid0.Coords) : Fin 2 → Nat :=
  let arg1 : BitVec 32 := BitVec.ofNat 32 (i 1).val
  let c128_i32 : BitVec 32 := 128#32
  let v16 : BitVec 32 := Scalar.muli arg1 c128_i32
  let v17 : BitVec 32 := v16
  let v44 : Index := Scalar.indexCast v17
  let c0_20 : Index := 0#32
  ![v44.toNat, 0]
def k0_cond4 (i : grid0.Coords) : BitVec 1 :=
  let arg1 : BitVec 32 := BitVec.ofNat 32 (i 1).val
  let c3_i32_4 : BitVec 32 := 3#32
  let v9 : BitVec 1 := Scalar.cmpi .eq arg1 c3_i32_4
  let v14 : BitVec 32 := Scalar.extui v9
  let c0_i32_7 : BitVec 32 := 0#32
  let v15 : BitVec 1 := Scalar.cmpi .ne v14 c0_i32_7
  v15

def k0_mult3 (i : grid0.Coords) : BitVec 32 :=
  let arg1 : BitVec 32 := BitVec.ofNat 32 (i 1).val
  let c128_i32 : BitVec 32 := 128#32
  let v16 : BitVec 32 := Scalar.muli arg1 c128_i32
  v16
def k0_off3 (i : grid0.Coords) : Fin 2 → Nat :=
  let arg1 : BitVec 32 := BitVec.ofNat 32 (i 1).val
  let c128_i32 : BitVec 32 := 128#32
  let v16 : BitVec 32 := Scalar.muli arg1 c128_i32
  let v17 : BitVec 32 := v16
  let v44 : Index := Scalar.indexCast v17
  let c0_20 : Index := 0#32
  ![v44.toNat, 0]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 1 := Scalar.cmpi .sge arg1 c2_i32
  let c1_i32 : BitVec 32 := 1#32
  let v1 : BitVec 32 := Scalar.subi arg0 c1_i32
  let c0_i32 : BitVec 32 := 0#32
  let v2 : BitVec 32 := Scalar.maxsi v1 c0_i32
  let v3 : BitVec 32 := Scalar.select v0 arg0 v2
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c31_i32 : BitVec 32 := 31#32
  let v1 : BitVec 32 := Scalar.minsi v0 c31_i32
  let c4_i32 : BitVec 32 := 4#32
  let v2 : BitVec 32 := Scalar.muli v1 c4_i32
  let v3 : BitVec 32 := Scalar.addi v2 arg1
  let c0_i32 : BitVec 32 := 0#32
  let c0_i32_0 : BitVec 32 := 0#32
  ![v3.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c1_i32_5 : BitVec 32 := 1#32
  let c0_i32_6 : BitVec 32 := 0#32
  ![v16.toNat, c0_i32_4.toNat, c1_i32_5.toNat]

def cc0_transform_3 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c2_i32 : BitVec 32 := 2#32
  let c0_i32_5 : BitVec 32 := 0#32
  ![v16.toNat, c0_i32_4.toNat, c2_i32.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c31_i32 : BitVec 32 := 31#32
  let v1 : BitVec 32 := Scalar.minsi v0 c31_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c1_i32_6 : BitVec 32 := 1#32
  let c0_i32_7 : BitVec 32 := 0#32
  ![v18.toNat, c0_i32_5.toNat, c1_i32_6.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c31_i32 : BitVec 32 := 31#32
  let v1 : BitVec 32 := Scalar.minsi v0 c31_i32
  let c16_i32 : BitVec 32 := 16#32
  let v2 : BitVec 32 := Scalar.divsi v1 c16_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c16_i32 c0_i32_1
  let v9 : BitVec 32 := Scalar.extui v8
  let c0_i32_2 : BitVec 32 := 0#32
  let v10 : BitVec 1 := Scalar.cmpi .slt c16_i32 c0_i32_2
  let v11 : BitVec 32 := Scalar.extui v10
  let v12 : BitVec 32 := Scalar.subi v9 v11
  let v13 : BitVec 1 := Scalar.cmpi .ne v7 v12
  let v14 : BitVec 32 := Scalar.remsi v1 c16_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c0_i32_5 : BitVec 32 := 0#32
  let c2_i32 : BitVec 32 := 2#32
  let c0_i32_6 : BitVec 32 := 0#32
  ![v18.toNat, c0_i32_5.toNat, c2_i32.toNat]

def cc0_transform_6 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c3_i32 : BitVec 32 := 3#32
  let c0_i32_5 : BitVec 32 := 0#32
  ![v16.toNat, c0_i32_4.toNat, c3_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S2048x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S2048x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S512x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference2Ideal.lean ====
abbrev S16384x2048 : Shape := ⟨2, ![16384, 2048]⟩
abbrev S8x1x8192 : Shape := ⟨3, ![8, 1, 8192]⟩
abbrev S1x2048 : Shape := ⟨2, ![1, 2048]⟩
abbrev S2048x8192 : Shape := ⟨2, ![2048, 8192]⟩
abbrev S8192x2048 : Shape := ⟨2, ![8192, 2048]⟩
abbrev S2048 : Shape := ⟨1, ![2048]⟩
abbrev S2x8192x2048 : Shape := ⟨3, ![2, 8192, 2048]⟩
abbrev S2x1x8192 : Shape := ⟨3, ![2, 1, 8192]⟩
abbrev S2x8192 : Shape := ⟨2, ![2, 8192]⟩
abbrev S2x2048 : Shape := ⟨2, ![2, 2048]⟩
abbrev S2x1x2048 : Shape := ⟨3, ![2, 1, 2048]⟩
abbrev S_ : Shape := ⟨0, ![]⟩
abbrev S2x8192x1 : Shape := ⟨3, ![2, 8192, 1]⟩
abbrev S1x1x2048 : Shape := ⟨3, ![1, 1, 2048]⟩
abbrev S2x8192x8192 : Shape := ⟨3, ![2, 8192, 8192]⟩

abbrev nBuf : Space → Nat
  | .hbm => 69
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S8x1x8192, .f32⟩
  | .hbm, ⟨2, _⟩ => ⟨S1x2048, .f32⟩
  | .hbm, ⟨3, _⟩ => ⟨S2048x8192, .bf16⟩
  | .hbm, ⟨4, _⟩ => ⟨S8192x2048, .bf16⟩
  | .hbm, ⟨5, _⟩ => ⟨S2048, .f32⟩
  | .hbm, ⟨6, _⟩ => ⟨S2x8192x2048, .f32⟩
  | .hbm, ⟨7, _⟩ => ⟨S2x1x8192, .f32⟩
  | .hbm, ⟨8, _⟩ => ⟨S2x8192, .f32⟩
  | .hbm, ⟨9, _⟩ => ⟨S2x2048, .f32⟩
  | .hbm, ⟨10, _⟩ => ⟨S2x2048, .f32⟩
  | .hbm, ⟨11, _⟩ => ⟨S2x2048, .f32⟩
  | .hbm, ⟨12, _⟩ => ⟨S2x2048, .f32⟩
  | .hbm, ⟨13, _⟩ => ⟨S2x1x2048, .f32⟩
  | .hbm, ⟨14, _⟩ => ⟨S2x1x2048, .f32⟩
  | .hbm, ⟨15, _⟩ => ⟨S2x1x2048, .f32⟩
  | .hbm, ⟨16, _⟩ => ⟨S2x1x2048, .f32⟩
  | .hbm, ⟨17, _⟩ => ⟨S2048, .f32⟩
  | .hbm, ⟨18, _⟩ => ⟨S2x8192x2048, .f32⟩
  | .hbm, ⟨19, _⟩ => ⟨S_, .f32⟩
  | .hbm, ⟨20, _⟩ => ⟨S2x8192, .f32⟩
  | .hbm, ⟨21, _⟩ => ⟨S2x8192x1, .f32⟩
  | .hbm, ⟨22, _⟩ => ⟨S_, .f32⟩
  | .hbm, ⟨23, _⟩ => ⟨S2x8192x1, .f32⟩
  | .hbm, ⟨24, _⟩ => ⟨S2x8192x1, .f32⟩
  | .hbm, ⟨25, _⟩ => ⟨S_, .f32⟩
  | .hbm, ⟨26, _⟩ => ⟨S2x8192x1, .f32⟩
  | .hbm, ⟨27, _⟩ => ⟨S2x8192x1, .f32⟩
  | .hbm, ⟨28, _⟩ => ⟨S2x8192x1, .f32⟩
  | .hbm, ⟨29, _⟩ => ⟨S2x8192x2048, .f32⟩
  | .hbm, ⟨30, _⟩ => ⟨S2x8192x2048, .f32⟩
  | .hbm, ⟨31, _⟩ => ⟨S1x1x2048, .f32⟩
  | .hbm, ⟨32, _⟩ => ⟨S2x8192x2048, .f32⟩
  | .hbm, ⟨33, _⟩ => ⟨S2x8192x2048, .f32⟩
  | .hbm, ⟨34, _⟩ => ⟨S_, .f32⟩
  | .hbm, ⟨35, _⟩ => ⟨S2x1x2048, .f32⟩
  | .hbm, ⟨36, _⟩ => ⟨S2x1x2048, .f32⟩
  | .hbm, ⟨37, _⟩ => ⟨S2x8192x2048, .f32⟩
  | .hbm, ⟨38, _⟩ => ⟨S2x8192x2048, .f32⟩
  | .hbm, ⟨39, _⟩ => ⟨S2x8192x2048, .f32⟩
  | .hbm, ⟨40, _⟩ => ⟨S2x8192x2048, .f32⟩
  | .hbm, ⟨41, _⟩ => ⟨S2048x8192, .f32⟩
  | .hbm, ⟨42, _⟩ => ⟨S8192x2048, .f32⟩
  | .hbm, ⟨43, _⟩ => ⟨S2x8192x8192, .f32⟩
  | .hbm, ⟨44, _⟩ => ⟨S_, .f32⟩
  | .hbm, ⟨45, _⟩ => ⟨S2x8192x8192, .f32⟩
  | .hbm, ⟨46, _⟩ => ⟨S2x8192x8192, .f32⟩
  | .hbm, ⟨47, _⟩ => ⟨S2x8192x8192, .f32⟩
  | .hbm, ⟨48, _⟩ => ⟨S2x8192x2048, .f32⟩
  | .hbm, ⟨49, _⟩ => ⟨S2x8192x2048, .f32⟩
  | .hbm, ⟨50, _⟩ => ⟨S2x8192x2048, .f32⟩
  | .hbm, ⟨51, _⟩ => ⟨S2x8192x2048, .f32⟩
  | .hbm, ⟨52, _⟩ => ⟨S2x8192x2048, .f32⟩
  | .hbm, ⟨53, _⟩ => ⟨S_, .f32⟩
  | .hbm, ⟨54, _⟩ => ⟨S2x8192, .f32⟩
  | .hbm, ⟨55, _⟩ => ⟨S2x8192x1, .f32⟩
  | .hbm, ⟨56, _⟩ => ⟨S_, .f32⟩
  | .hbm, ⟨57, _⟩ => ⟨S2x8192x1, .f32⟩
  | .hbm, ⟨58, _⟩ => ⟨S2x8192x1, .f32⟩
  | .hbm, ⟨59, _⟩ => ⟨S_, .f32⟩
  | .hbm, ⟨60, _⟩ => ⟨S2x8192x1, .f32⟩
  | .hbm, ⟨61, _⟩ => ⟨S2x8192x1, .f32⟩
  | .hbm, ⟨62, _⟩ => ⟨S2x8192x1, .f32⟩
  | .hbm, ⟨63, _⟩ => ⟨S2x8192x2048, .f32⟩
  | .hbm, ⟨64, _⟩ => ⟨S2x8192x2048, .f32⟩
  | .hbm, ⟨65, _⟩ => ⟨S1x1x2048, .f32⟩
  | .hbm, ⟨66, _⟩ => ⟨S2x8192x2048, .f32⟩
  | .hbm, ⟨67, _⟩ => ⟨S2x8192x2048, .f32⟩
  | .hbm, ⟨68, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_v14 : Ref sig .tc := ⟨.hbm, 21, rfl⟩
abbrev main_cst_0 : Ref sig .tc := ⟨.hbm, 22, rfl⟩
abbrev main_v15 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_call0_cst : Ref sig .tc := ⟨.hbm, 44, rfl⟩
abbrev main_call0_v0 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_3 : Ref sig .tc := ⟨.hbm, 53, rfl⟩
abbrev main_v41 : Ref sig .tc := ⟨.hbm, 54, rfl⟩
abbrev main_v42 : Ref sig .tc := ⟨.hbm, 55, rfl⟩
abbrev main_cst_4 : Ref sig .tc := ⟨.hbm, 56, rfl⟩
abbrev main_v43 : Ref sig .tc := ⟨.hbm, 57, rfl⟩
abbrev main_v44 : Ref sig .tc := ⟨.hbm, 58, rfl⟩
abbrev main_cst_5 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩

abbrev nD : Nat := 1
abbrev τ : Topo := Topo.v7x

variable {F : FTy → Type} [FloatOps F]
-- ==== Proof.Ideal.Points.lean ====
module

public import proofs.«01_k».proof.Proof.Gen.KernelIdeal.Frame
public import proofs.«01_k».proof.Proof.Gen.KernelIdeal.Skeleton

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's branch conditions -/

abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_0, e0, e1]
    word_cmp
   : ∀ t : Fin grid0.N, cond0_0 (grid0.coords t) ↔ t.val % 16 = 0)

abbrev cond0_1 (i : grid0.Coords) : Prop := k0_cond2 i = 1#1
theorem hcond0_1 : ∀ t : Fin cfg0.N, cond0_1 (grid0.coords t) ↔ t.val % 16 = 15 :=
  (fun t => by
    have ht : t.val < 32 := Nat.lt_of_lt_of_eq t.isLt N_0
    have e0 : (grid0.coords t 0).val = t.val / 16 % 2 := Pipeline.Grid.coords_val t 0 (by decide) rfl
    have e1 : (grid0.coords t 1).val = t.val / 1 % 16 := Pipeline.Grid.coords_val t 1 (by decide) rfl
    simp only [cond0_1, k0_cond2, e0, e1]
    word_cmp
   : ∀ t : Fin grid0.N, cond0_1 (grid0.coords t) ↔ t.val % 16 = 15)

/-! ## Where the windows are idle (the printed configuration's table `Cfg.idle`) -/

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl
theorem liveAt0_11 : ∀ t : Fin cfg0.N, cfg0.idle 11 (grid0.coords t) = false := fun _ => rfl
theorem liveAt0_12 : ∀ t : Fin cfg0.N, cfg0.idle 12 (grid0.coords t) = false := fun _ => rfl
theorem liveAt0_13 : ∀ t : Fin cfg0.N, cfg0.idle 13 (grid0.coords t) = false := fun _ => rfl
theorem liveAt0_14 : ∀ t : Fin cfg0.N, cfg0.idle 14 (grid0.coords t) = false := fun _ => rfl
theorem liveAt0_15 : ∀ t : Fin cfg0.N, cfg0.idle 15 (grid0.coords t) = false := fun _ => rfl
theorem liveAt0_16 : ∀ t : Fin cfg0.N, cfg0.idle 16 (grid0.coords t) = false := fun _ => rfl
theorem liveAt0_17 : ∀ t : Fin cfg0.N, cfg0.idle 17 (grid0.coords t) = false := fun _ => rfl
theorem liveAt0_20 : ∀ t : Fin cfg0.N, cfg0.idle 20 (grid0.coords t) = false := fun _ => rfl
theorem liveAt0_21 : ∀ t : Fin cfg0.N, cfg0.idle 21 (grid0.coords t) = false := fun _ => rfl
theorem liveAt0_22 : ∀ t : Fin cfg0.N, cfg0.idle 22 (grid0.coords t) = false := fun _ => rfl
theorem liveAt0_23 : ∀ t : Fin cfg0.N, cfg0.idle 23 (grid0.coords t) = false := fun _ => rfl
theorem idleAt0_18_A : ∀ t : Fin cfg0.N, cond0_0 (grid0.coords t) → ¬cond0_1 (grid0.coords t) → cfg0.idle 18 (grid0.coords t) = true := by decide +kernel
theorem noFlush0_18_A : ∀ t : Fin cfg0.N, cond0_0 (grid0.coords t) → ¬cond0_1 (grid0.coords t) → (cfg0.win 18).flush t = false := by decide +kernel
theorem idleAt0_18_B : ∀ t : Fin cfg0.N, ¬cond0_0 (grid0.coords t) → ¬cond0_1 (grid0.coords t) → cfg0.idle 18 (grid0.coords t) = true := by decide +kernel
theorem noFlush0_18_B : ∀ t : Fin cfg0.N, ¬cond0_0 (grid0.coords t) → ¬cond0_1 (grid0.coords t) → (cfg0.win 18).flush t = false := by decide +kernel
theorem liveAt0_18_C : ∀ t : Fin cfg0.N, ¬cond0_0 (grid0.coords t) → cond0_1 (grid0.coords t) → cfg0.idle 18 (grid0.coords t) = false := by decide +kernel
theorem idleAt0_19_A : ∀ t : Fin cfg0.N, cond0_0 (grid0.coords t) → ¬cond0_1 (grid0.coords t) → cfg0.idle 19 (grid0.coords t) = true := by decide +kernel
theorem noFlush0_19_A : ∀ t : Fin cfg0.N, cond0_0 (grid0.coords t) → ¬cond0_1 (grid0.coords t) → (cfg0.win 19).flush t = false := by decide +kernel
theorem idleAt0_19_B : ∀ t : Fin cfg0.N, ¬cond0_0 (grid0.coords t) → ¬cond0_1 (grid0.coords t) → cfg0.idle 19 (grid0.coords t) = true := by decide +kernel
theorem noFlush0_19_B : ∀ t : Fin cfg0.N, ¬cond0_0 (grid0.coords t) → ¬cond0_1 (grid0.coords t) → (cfg0.win 19).flush t = false := by decide +kernel
theorem liveAt0_19_C : ∀ t : Fin cfg0.N, ¬cond0_0 (grid0.coords t) → cond0_1 (grid0.coords t) → cfg0.idle 19 (grid0.coords t) = false := by decide +kernel

/-! ## The kernel body on any staging memrefs: a subtype the run finds -/

abbrev VO0_16 : View sig .tc .vmem S1x512x1024 .bf16 := (Memref.whole cc0_stg16_0 : Memref sig .tc .vmem S1x512x1024 .bf16).view
abbrev VO0_17 : View sig .tc .vmem S1x512x1024 .bf16 := (Memref.whole cc0_stg17_0 : Memref sig .tc .vmem S1x512x1024 .bf16).view
abbrev VO0_18 : View sig .tc .vmem S1x4x128x256 .f32 := (Memref.whole cc0_stg18_0 : Memref sig .tc .vmem S1x4x128x256 .f32).view
abbrev VO0_19 : View sig .tc .vmem S1x4x128x256 .f32 := (Memref.whole cc0_stg19_0 : Memref sig .tc .vmem S1x4x128x256 .f32).view
abbrev VO0_20 : View sig .tc .vmem S64x8192 .bf16 := (Memref.whole cc0_stg20_0 : Memref sig .tc .vmem S64x8192 .bf16).view
abbrev VO0_21 : View sig .tc .vmem S32x2048 .bf16 := (Memref.whole cc0_stg21_0 : Memref sig .tc .vmem S32x2048 .bf16).view
abbrev VO0_22 : View sig .tc .vmem S32x2048 .bf16 := (Memref.whole cc0_stg22_0 : Memref sig .tc .vmem S32x2048 .bf16).view
abbrev VO0_23 : View sig .tc .vmem S64x2048 .bf16 := (Memref.whole cc0_stg23_0 : Memref sig .tc .vmem S64x2048 .bf16).view
abbrev ms0_0 (t : Fin cfg0.N) : Memref sig .tc .vmem S1x512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x512x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x512x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x1024 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x512x1024 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x512x128 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x512 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x512 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x512 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x512 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x4x128x256 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x4x128x256 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S64x8192 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S32x2048 .f32 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S32x2048 .f32 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S64x2048 .f32 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x512x1024 .bf16 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x512x1024 .bf16 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x4x128x256 .f32 := win0_18.stage (cfg0.slots t 18)
abbrev hs0_18 (t : Fin cfg0.N) : (ms0_18 t).IsWhole := hstage0_18 ((cfg0.slots t 18).cast nbuf0_18)
abbrev ms0_19 (t : Fin cfg0.N) : Memref sig .tc .vmem S1x4x128x256 .f32 := win0_19.stage (cfg0.slots t 19)
abbrev hs0_19 (t : Fin cfg0.N) : (ms0_19 t).IsWhole := hstage0_19 ((cfg0.slots t 19).cast nbuf0_19)
abbrev ms0_20 (t : Fin cfg0.N) : Memref sig .tc .vmem S64x8192 .bf16 := win0_20.stage (cfg0.slots t 20)
abbrev hs0_20 (t : Fin cfg0.N) : (ms0_20 t).IsWhole := hstage0_20 ((cfg0.slots t 20).cast nbuf0_20)
abbrev ms0_21 (t : Fin cfg0.N) : Memref sig .tc .vmem S32x2048 .bf16 := win0_21.stage (cfg0.slots t 21)
abbrev hs0_21 (t : Fin cfg0.N) : (ms0_21 t).IsWhole := hstage0_21 ((cfg0.slots t 21).cast nbuf0_21)
abbrev ms0_22 (t : Fin cfg0.N) : Memref sig .tc .vmem S32x2048 .bf16 := win0_22.stage (cfg0.slots t 22)
abbrev hs0_22 (t : Fin cfg0.N) : (ms0_22 t).IsWhole := hstage0_22 ((cfg0.slots t 22).cast nbuf0_22)
abbrev ms0_23 (t : Fin cfg0.N) : Memref sig .tc .vmem S64x2048 .bf16 := win0_23.stage (cfg0.slots t 23)
abbrev hs0_23 (t : Fin cfg0.N) : (ms0_23 t).IsWhole := hstage0_23 ((cfg0.slots t 23).cast nbuf0_23)
abbrev scM0_0 : Memref sig .tc .vmem S2x4x128x256 .f32 := Memref.whole cc0_scratch0
abbrev VS0_0 : View sig .tc .vmem S2x4x128x256 .f32 := scM0_0.view

theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

end Cert.KernelIdeal.Gen

end
-- ==== Proof.Ideal.RunFirst.lean ====
module

public import proofs.«01_k».proof.Proof.Ideal.Points

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1696000 in set_option sl_exec.squeezeSlice true in
noncomputable def kernelRun0_A (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S1x512x128 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x128 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x4x128x256 .f32) (harg12 : arg12.IsWhole) (arg13 : Memref sig .tc .vmem S1x4x128x256 .f32) (harg13 : arg13.IsWhole) (arg14 : Memref sig .tc .vmem S64x8192 .f32) (harg14 : arg14.IsWhole) (arg15 : Memref sig .tc .vmem S32x2048 .f32) (harg15 : arg15.IsWhole) (arg16 : Memref sig .tc .vmem S32x2048 .f32) (harg16 : arg16.IsWhole) (arg17 : Memref sig .tc .vmem S64x2048 .f32) (harg17 : arg17.IsWhole) (arg18 : Memref sig .tc .vmem S1x512x1024 .bf16) (harg18 : arg18.IsWhole) (arg19 : Memref sig .tc .vmem S1x512x1024 .bf16) (harg19 : arg19.IsWhole) (arg20 : Memref sig .tc .vmem S1x4x128x256 .f32) (harg20 : arg20.IsWhole) (arg21 : Memref sig .tc .vmem S1x4x128x256 .f32) (harg21 : arg21.IsWhole) (arg22 : Memref sig .tc .vmem S64x8192 .bf16) (harg22 : arg22.IsWhole) (arg23 : Memref sig .tc .vmem S32x2048 .bf16) (harg23 : arg23.IsWhole) (arg24 : Memref sig .tc .vmem S32x2048 .bf16) (harg24 : arg24.IsWhole) (arg25 : Memref sig .tc .vmem S64x2048 .bf16) (harg25 : arg25.IsWhole) (arg26 : Memref sig .tc .vmem S2x4x128x256 .f32) (harg26 : arg26.IsWhole) (hc0 : cond0_0 i) (hc1 : ¬cond0_1 i)
    (x0 : Vec F S1x512x1024 .bf16) (x1 : Vec F S1x512x1024 .bf16) (x2 : Vec F S1x512x128 .f32) (x3 : Vec F S1x512x1024 .bf16) (x4 : Vec F S1x512x1024 .bf16) (x5 : Vec F S1x512x128 .f32) (x6 : Vec F S128x512 .bf16) (x7 : Vec F S1x512 .f32) (x8 : Vec F S128x512 .bf16) (x9 : Vec F S1x512 .f32) (x10 : Vec F S1x4x128x256 .f32) (x11 : Vec F S1x4x128x256 .f32) (x12 : Vec F S64x8192 .f32) (x13 : Vec F S32x2048 .f32) (x14 : Vec F S32x2048 .f32) (x15 : Vec F S64x2048 .f32) :
    Σ' (L16 : List (View.Piece (Elt F) S1x512x1024 .bf16)), Σ' (L17 : List (View.Piece (Elt F) S1x512x1024 .bf16)), Σ' (L18 : List (View.Piece (Elt F) S1x4x128x256 .f32)), Σ' (L19 : List (View.Piece (Elt F) S1x4x128x256 .f32)), Σ' (L20 : List (View.Piece (Elt F) S64x8192 .bf16)), Σ' (L21 : List (View.Piece (Elt F) S32x2048 .bf16)), Σ' (L22 : List (View.Piece (Elt F) S32x2048 .bf16)), Σ' (L23 : List (View.Piece (Elt F) S64x2048 .bf16)), { LS0 : List (View.Piece (Elt F) S2x4x128x256 .f32) //
      ∀ (xi18 : Vec F S1x4x128x256 .f32) (xi19 : Vec F S1x4x128x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ owns (c : Thread nD τ) arg20 fullShare xi18 ∗ owns (c : Thread nD τ) arg21 fullShare xi19 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ owns (c : Thread nD τ) arg20 fullShare xi18 ∗ owns (c : Thread nD τ) arg21 fullShare xi19 ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f LS0)) -∗ K ⟨⟩))
          ⊢ wp frame (wpE (defs₀ (F := F)) Variants.none c none) E (cc0_gla_seq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, [], [], ?_, ?_, ?_, ?_, ?_, fun xi18 xi19 E K => ?run⟩
  case run =>
    simp only [cc0_gla_seq_eq_skeleton]; unfold cc0_gla_seq_skel
    simp only [k0_part50_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg20.eq_unread hf18; obtain rfl := harg21.eq_unread hf19
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]
    · iexists _; isplitr; · ipureintro; exact harg20.read_unread _
      iexact H18
    isplitl [H19]
    · iexists _; isplitr; · ipureintro; exact harg21.read_unread _
      iexact H19
    isplitl [H20]; · iexists _; iexact H20
    isplitl [H21]; · iexists _; iexact H21
    isplitl [H22]; · iexists _; iexact H22
    isplitl [H23]; · iexists _; iexact H23
    iexists _; iexact HS0

end Cert.KernelIdeal.Gen

end
-- ==== Proof.Ideal.RunMiddle.lean ====
module

public import proofs.«01_k».proof.Proof.Ideal.Points

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1664000 in set_option sl_exec.squeezeSlice true in
noncomputable def kernelRun0_B (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S1x512x128 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x128 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x4x128x256 .f32) (harg12 : arg12.IsWhole) (arg13 : Memref sig .tc .vmem S1x4x128x256 .f32) (harg13 : arg13.IsWhole) (arg14 : Memref sig .tc .vmem S64x8192 .f32) (harg14 : arg14.IsWhole) (arg15 : Memref sig .tc .vmem S32x2048 .f32) (harg15 : arg15.IsWhole) (arg16 : Memref sig .tc .vmem S32x2048 .f32) (harg16 : arg16.IsWhole) (arg17 : Memref sig .tc .vmem S64x2048 .f32) (harg17 : arg17.IsWhole) (arg18 : Memref sig .tc .vmem S1x512x1024 .bf16) (harg18 : arg18.IsWhole) (arg19 : Memref sig .tc .vmem S1x512x1024 .bf16) (harg19 : arg19.IsWhole) (arg20 : Memref sig .tc .vmem S1x4x128x256 .f32) (harg20 : arg20.IsWhole) (arg21 : Memref sig .tc .vmem S1x4x128x256 .f32) (harg21 : arg21.IsWhole) (arg22 : Memref sig .tc .vmem S64x8192 .bf16) (harg22 : arg22.IsWhole) (arg23 : Memref sig .tc .vmem S32x2048 .bf16) (harg23 : arg23.IsWhole) (arg24 : Memref sig .tc .vmem S32x2048 .bf16) (harg24 : arg24.IsWhole) (arg25 : Memref sig .tc .vmem S64x2048 .bf16) (harg25 : arg25.IsWhole) (arg26 : Memref sig .tc .vmem S2x4x128x256 .f32) (harg26 : arg26.IsWhole) (hc0 : ¬cond0_0 i) (hc1 : ¬cond0_1 i)
    (x0 : Vec F S1x512x1024 .bf16) (x1 : Vec F S1x512x1024 .bf16) (x2 : Vec F S1x512x128 .f32) (x3 : Vec F S1x512x1024 .bf16) (x4 : Vec F S1x512x1024 .bf16) (x5 : Vec F S1x512x128 .f32) (x6 : Vec F S128x512 .bf16) (x7 : Vec F S1x512 .f32) (x8 : Vec F S128x512 .bf16) (x9 : Vec F S1x512 .f32) (x10 : Vec F S1x4x128x256 .f32) (x11 : Vec F S1x4x128x256 .f32) (x12 : Vec F S64x8192 .f32) (x13 : Vec F S32x2048 .f32) (x14 : Vec F S32x2048 .f32) (x15 : Vec F S64x2048 .f32) (xs0 : Vec F S2x4x128x256 .f32) :
    Σ' (L16 : List (View.Piece (Elt F) S1x512x1024 .bf16)), Σ' (L17 : List (View.Piece (Elt F) S1x512x1024 .bf16)), Σ' (L18 : List (View.Piece (Elt F) S1x4x128x256 .f32)), Σ' (L19 : List (View.Piece (Elt F) S1x4x128x256 .f32)), Σ' (L20 : List (View.Piece (Elt F) S64x8192 .bf16)), Σ' (L21 : List (View.Piece (Elt F) S32x2048 .bf16)), Σ' (L22 : List (View.Piece (Elt F) S32x2048 .bf16)), Σ' (L23 : List (View.Piece (Elt F) S64x2048 .bf16)), { LS0 : List (View.Piece (Elt F) S2x4x128x256 .f32) //
      ∀ (xi18 : Vec F S1x4x128x256 .f32) (xi19 : Vec F S1x4x128x256 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ owns (c : Thread nD τ) arg20 fullShare xi18 ∗ owns (c : Thread nD τ) arg21 fullShare xi19 ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ owns (c : Thread nD τ) arg26 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ owns (c : Thread nD τ) arg20 fullShare xi18 ∗ owns (c : Thread nD τ) arg21 fullShare xi19 ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f LS0)) -∗ K ⟨⟩))
          ⊢ wp frame (wpE (defs₀ (F := F)) Variants.none c none) E (cc0_gla_seq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, [], [], ?_, ?_, ?_, ?_, ?_, fun xi18 xi19 E K => ?run⟩
  case run =>
    simp only [cc0_gla_seq_eq_skeleton]; unfold cc0_gla_seq_skel
    simp only [k0_part50_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%f18, %hf18, H18⟩, ⟨%f19, %hf19, H19⟩, ⟨%d20, %f20, -, H20⟩, ⟨%d21, %f21, -, H21⟩, ⟨%d22, %f22, -, H22⟩, ⟨%d23, %f23, -, H23⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg20.eq_unread hf18; obtain rfl := harg21.eq_unread hf19; obtain rfl := harg26.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]
    · iexists _; isplitr; · ipureintro; exact harg20.read_unread _
      iexact H18
    isplitl [H19]
    · iexists _; isplitr; · ipureintro; exact harg21.read_unread _
      iexact H19
    isplitl [H20]; · iexists _; iexact H20
    isplitl [H21]; · iexists _; iexact H21
    isplitl [H22]; · iexists _; iexact H22
    isplitl [H23]; · iexists _; iexact H23
    iexists _; iexact HS0

end Cert.KernelIdeal.Gen

end
-- ==== Proof.Ideal.RunLast.lean ====
module

public import proofs.«01_k».proof.Proof.Ideal.Points

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1696000 in set_option sl_exec.squeezeSlice true in
noncomputable def kernelRun0_C (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S1x512x128 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x128 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x4x128x256 .f32) (harg12 : arg12.IsWhole) (arg13 : Memref sig .tc .vmem S1x4x128x256 .f32) (harg13 : arg13.IsWhole) (arg14 : Memref sig .tc .vmem S64x8192 .f32) (harg14 : arg14.IsWhole) (arg15 : Memref sig .tc .vmem S32x2048 .f32) (harg15 : arg15.IsWhole) (arg16 : Memref sig .tc .vmem S32x2048 .f32) (harg16 : arg16.IsWhole) (arg17 : Memref sig .tc .vmem S64x2048 .f32) (harg17 : arg17.IsWhole) (arg18 : Memref sig .tc .vmem S1x512x1024 .bf16) (harg18 : arg18.IsWhole) (arg19 : Memref sig .tc .vmem S1x512x1024 .bf16) (harg19 : arg19.IsWhole) (arg20 : Memref sig .tc .vmem S1x4x128x256 .f32) (harg20 : arg20.IsWhole) (arg21 : Memref sig .tc .vmem S1x4x128x256 .f32) (harg21 : arg21.IsWhole) (arg22 : Memref sig .tc .vmem S64x8192 .bf16) (harg22 : arg22.IsWhole) (arg23 : Memref sig .tc .vmem S32x2048 .bf16) (harg23 : arg23.IsWhole) (arg24 : Memref sig .tc .vmem S32x2048 .bf16) (harg24 : arg24.IsWhole) (arg25 : Memref sig .tc .vmem S64x2048 .bf16) (harg25 : arg25.IsWhole) (arg26 : Memref sig .tc .vmem S2x4x128x256 .f32) (harg26 : arg26.IsWhole) (hc0 : ¬cond0_0 i) (hc1 : cond0_1 i)
    (x0 : Vec F S1x512x1024 .bf16) (x1 : Vec F S1x512x1024 .bf16) (x2 : Vec F S1x512x128 .f32) (x3 : Vec F S1x512x1024 .bf16) (x4 : Vec F S1x512x1024 .bf16) (x5 : Vec F S1x512x128 .f32) (x6 : Vec F S128x512 .bf16) (x7 : Vec F S1x512 .f32) (x8 : Vec F S128x512 .bf16) (x9 : Vec F S1x512 .f32) (x10 : Vec F S1x4x128x256 .f32) (x11 : Vec F S1x4x128x256 .f32) (x12 : Vec F S64x8192 .f32) (x13 : Vec F S32x2048 .f32) (x14 : Vec F S32x2048 .f32) (x15 : Vec F S64x2048 .f32) (xs0 : Vec F S2x4x128x256 .f32) :
    Σ' (L16 : List (View.Piece (Elt F) S1x512x1024 .bf16)), Σ' (L17 : List (View.Piece (Elt F) S1x512x1024 .bf16)), Σ' (L18 : List (View.Piece (Elt F) S1x4x128x256 .f32)), Σ' (L19 : List (View.Piece (Elt F) S1x4x128x256 .f32)), Σ' (L20 : List (View.Piece (Elt F) S64x8192 .bf16)), Σ' (L21 : List (View.Piece (Elt F) S32x2048 .bf16)), Σ' (L22 : List (View.Piece (Elt F) S32x2048 .bf16)), Σ' (L23 : List (View.Piece (Elt F) S64x2048 .bf16)), { LS0 : List (View.Piece (Elt F) S2x4x128x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ owns (c : Thread nD τ) arg26 fullShare xs0
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f LS0)) -∗ K ⟨⟩))
          ⊢ wp frame (wpE (defs₀ (F := F)) Variants.none c none) E (cc0_gla_seq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26) K } := by
  refine ⟨?_, ?_, ?_, ?_, ?_, ?_, ?_, ?_, ?_, fun E K => ?run⟩
  case run =>
    simp only [cc0_gla_seq_eq_skeleton]; unfold cc0_gla_seq_skel
    simp only [k0_part50_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg26.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    iexists _; iexact HS0

end Cert.KernelIdeal.Gen

end
-- ==== Proof.Ideal.Frame.lean ====
module

public import proofs.«01_k».proof.Proof.Ideal.RunFirst
public import proofs.«01_k».proof.Proof.Ideal.RunMiddle
public import proofs.«01_k».proof.Proof.Ideal.RunLast
public import Idealize.ShloMosaic.Lib.Claim

/-!
# The frame of the call

The three runs of the body (at a sequence's first point, at its last and between) are three instances of one statement, `Runs`;
the body's obligation is proved once over it.
-/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What a point stores -/

/-- The stores of a point, window by window and the scratch's, each newest first. -/
structure Stores (F : FTy → Type) where
  w16 : List (View.Piece (Elt F) S1x512x1024 .bf16)
  w17 : List (View.Piece (Elt F) S1x512x1024 .bf16)
  w18 : List (View.Piece (Elt F) S1x4x128x256 .f32)
  w19 : List (View.Piece (Elt F) S1x4x128x256 .f32)
  w20 : List (View.Piece (Elt F) S64x8192 .bf16)
  w21 : List (View.Piece (Elt F) S32x2048 .bf16)
  w22 : List (View.Piece (Elt F) S32x2048 .bf16)
  w23 : List (View.Piece (Elt F) S64x2048 .bf16)
  scr : List (View.Piece (Elt F) S2x4x128x256 .f32)

/-- The run at a first point. -/
def runA (c : Dev nD) (t : Fin cfg0.N) (h0 : t.val % 16 = 0) (h1 : ¬t.val % 16 = 15) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (fun h => h1 ((hcond0_1 t).mp h))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

def storesA (c : Dev nD) (t : Fin cfg0.N) (h0 : t.val % 16 = 0) (h1 : ¬t.val % 16 = 15) : Stores F :=
  ⟨(runA m c t h0 h1).1, (runA m c t h0 h1).2.1, (runA m c t h0 h1).2.2.1, (runA m c t h0 h1).2.2.2.1, (runA m c t h0 h1).2.2.2.2.1, (runA m c t h0 h1).2.2.2.2.2.1, (runA m c t h0 h1).2.2.2.2.2.2.1, (runA m c t h0 h1).2.2.2.2.2.2.2.1, (runA m c t h0 h1).2.2.2.2.2.2.2.2.1⟩

/-- at a point in between. -/
def runB (c : Dev nD) (t : Fin cfg0.N) (h0 : ¬t.val % 16 = 0) (h1 : ¬t.val % 16 = 15) (S : Vec F S2x4x128x256 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (fun h => h1 ((hcond0_1 t).mp h))
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) S

def storesB (c : Dev nD) (t : Fin cfg0.N) (h0 : ¬t.val % 16 = 0) (h1 : ¬t.val % 16 = 15) (S : Vec F S2x4x128x256 .f32) : Stores F :=
  ⟨(runB m c t h0 h1 S).1, (runB m c t h0 h1 S).2.1, (runB m c t h0 h1 S).2.2.1, (runB m c t h0 h1 S).2.2.2.1, (runB m c t h0 h1 S).2.2.2.2.1, (runB m c t h0 h1 S).2.2.2.2.2.1, (runB m c t h0 h1 S).2.2.2.2.2.2.1, (runB m c t h0 h1 S).2.2.2.2.2.2.2.1, (runB m c t h0 h1 S).2.2.2.2.2.2.2.2.1⟩

/-- and at a last point.. -/
def runC (c : Dev nD) (t : Fin cfg0.N) (h0 : ¬t.val % 16 = 0) (h1 : t.val % 16 = 15) (S : Vec F S2x4x128x256 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) ((hcond0_1 t).mpr h1)
    (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) S

def storesC (c : Dev nD) (t : Fin cfg0.N) (h0 : ¬t.val % 16 = 0) (h1 : t.val % 16 = 15) (S : Vec F S2x4x128x256 .f32) : Stores F :=
  ⟨(runC m c t h0 h1 S).1, (runC m c t h0 h1 S).2.1, (runC m c t h0 h1 S).2.2.1, (runC m c t h0 h1 S).2.2.2.1, (runC m c t h0 h1 S).2.2.2.2.1, (runC m c t h0 h1 S).2.2.2.2.2.1, (runC m c t h0 h1 S).2.2.2.2.2.2.1, (runC m c t h0 h1 S).2.2.2.2.2.2.2.1, (runC m c t h0 h1 S).2.2.2.2.2.2.2.2.1⟩

/-- The stores of point `t` over a scratch that holds `S`. -/
def stores (c : Dev nD) (t : Fin cfg0.N) (S : Vec F S2x4x128x256 .f32) : Stores F :=
  if h0 : t.val % 16 = 0 then
    if h1 : t.val % 16 = 15 then ⟨[], [], [], [], [], [], [], [], []⟩ else storesA m c t h0 h1
  else if h1 : t.val % 16 = 15 then storesC m c t h0 h1 S else storesB m c t h0 h1 S

theorem stores_A (c : Dev nD) (t : Fin cfg0.N) (S) (h0 : t.val % 16 = 0) (h1 : ¬t.val % 16 = 15) :
    stores m c t S = storesA m c t h0 h1 := (dif_pos h0).trans (dif_neg h1)
theorem stores_B (c : Dev nD) (t : Fin cfg0.N) (S) (h0 : ¬t.val % 16 = 0) (h1 : ¬t.val % 16 = 15) :
    stores m c t S = storesB m c t h0 h1 S := (dif_neg h0).trans (dif_neg h1)
theorem stores_C (c : Dev nD) (t : Fin cfg0.N) (S) (h0 : ¬t.val % 16 = 0) (h1 : t.val % 16 = 15) :
    stores m c t S = storesC m c t h0 h1 S := (dif_neg h0).trans (dif_pos h1)

/-! ## What the stores leave -/

def left16 (L : Stores F) : Vec F S1x512x1024 .bf16 := VO0_16.read (Elt F) (VO0_16.writes (Elt F) VO0_16.junk L.w16)
def left17 (L : Stores F) : Vec F S1x512x1024 .bf16 := VO0_17.read (Elt F) (VO0_17.writes (Elt F) VO0_17.junk L.w17)
def left18 (L : Stores F) : Vec F S1x4x128x256 .f32 := VO0_18.read (Elt F) (VO0_18.writes (Elt F) VO0_18.junk L.w18)
def left19 (L : Stores F) : Vec F S1x4x128x256 .f32 := VO0_19.read (Elt F) (VO0_19.writes (Elt F) VO0_19.junk L.w19)
def left20 (L : Stores F) : Vec F S64x8192 .bf16 := VO0_20.read (Elt F) (VO0_20.writes (Elt F) VO0_20.junk L.w20)
def left21 (L : Stores F) : Vec F S32x2048 .bf16 := VO0_21.read (Elt F) (VO0_21.writes (Elt F) VO0_21.junk L.w21)
def left22 (L : Stores F) : Vec F S32x2048 .bf16 := VO0_22.read (Elt F) (VO0_22.writes (Elt F) VO0_22.junk L.w22)
def left23 (L : Stores F) : Vec F S64x2048 .bf16 := VO0_23.read (Elt F) (VO0_23.writes (Elt F) VO0_23.junk L.w23)
def leftScr (L : Stores F) : Vec F S2x4x128x256 .f32 := VS0_0.read (Elt F) (VS0_0.writes (Elt F) VS0_0.junk L.scr)

/-- The windows every point fills, and the scratch, are covered by their stores. -/
structure Covers (L : Stores F) : Prop where
  w16 : ∀ y, ∃ pc ∈ L.w16, y ∈ pc.1.set
  w17 : ∀ y, ∃ pc ∈ L.w17, y ∈ pc.1.set
  w20 : ∀ y, ∃ pc ∈ L.w20, y ∈ pc.1.set
  w21 : ∀ y, ∃ pc ∈ L.w21, y ∈ pc.1.set
  w22 : ∀ y, ∃ pc ∈ L.w22, y ∈ pc.1.set
  w23 : ∀ y, ∃ pc ∈ L.w23, y ∈ pc.1.set
  scr : ∀ y, ∃ pc ∈ L.scr, y ∈ pc.1.set

theorem coversA (c : Dev nD) (t : Fin cfg0.N) (h0) (h1) : Covers (storesA m c t h0 h1) where
  w16 y := View.cover_of_tiledL (storesA m c t h0 h1).w16 S1x128x256.size (by sl_kernel_rfl) y
  w17 y := View.cover_of_tiledL (storesA m c t h0 h1).w17 S1x128x256.size (by sl_kernel_rfl) y
  w20 y := View.cover_of_tiledL (storesA m c t h0 h1).w20 S64x8192.size (by sl_kernel_rfl) y
  w21 y := View.cover_of_tiledL (storesA m c t h0 h1).w21 S32x2048.size (by sl_kernel_rfl) y
  w22 y := View.cover_of_tiledL (storesA m c t h0 h1).w22 S32x2048.size (by sl_kernel_rfl) y
  w23 y := View.cover_of_tiledL (storesA m c t h0 h1).w23 S64x2048.size (by sl_kernel_rfl) y
  scr y := View.cover_of_tiledBy (storesA m c t h0 h1).scr ![1, 1, 128, 256] (by sl_kernel_rfl) y

theorem coversB (c : Dev nD) (t : Fin cfg0.N) (h0) (h1) (S) : Covers (storesB m c t h0 h1 S) where
  w16 y := View.cover_of_tiledL (storesB m c t h0 h1 S).w16 S1x128x256.size (by sl_kernel_rfl) y
  w17 y := View.cover_of_tiledL (storesB m c t h0 h1 S).w17 S1x128x256.size (by sl_kernel_rfl) y
  w20 y := View.cover_of_tiledL (storesB m c t h0 h1 S).w20 S64x8192.size (by sl_kernel_rfl) y
  w21 y := View.cover_of_tiledL (storesB m c t h0 h1 S).w21 S32x2048.size (by sl_kernel_rfl) y
  w22 y := View.cover_of_tiledL (storesB m c t h0 h1 S).w22 S32x2048.size (by sl_kernel_rfl) y
  w23 y := View.cover_of_tiledL (storesB m c t h0 h1 S).w23 S64x2048.size (by sl_kernel_rfl) y
  scr y := View.cover_of_tiledBy (storesB m c t h0 h1 S).scr ![1, 1, 128, 256] (by sl_kernel_rfl) y

theorem coversC (c : Dev nD) (t : Fin cfg0.N) (h0) (h1) (S) : Covers (storesC m c t h0 h1 S) where
  w16 y := View.cover_of_tiledL (storesC m c t h0 h1 S).w16 S1x128x256.size (by sl_kernel_rfl) y
  w17 y := View.cover_of_tiledL (storesC m c t h0 h1 S).w17 S1x128x256.size (by sl_kernel_rfl) y
  w20 y := View.cover_of_tiledL (storesC m c t h0 h1 S).w20 S64x8192.size (by sl_kernel_rfl) y
  w21 y := View.cover_of_tiledL (storesC m c t h0 h1 S).w21 S32x2048.size (by sl_kernel_rfl) y
  w22 y := View.cover_of_tiledL (storesC m c t h0 h1 S).w22 S32x2048.size (by sl_kernel_rfl) y
  w23 y := View.cover_of_tiledL (storesC m c t h0 h1 S).w23 S64x2048.size (by sl_kernel_rfl) y
  scr y := View.cover_of_tiledBy (storesC m c t h0 h1 S).scr ![1, 1, 128, 256] (by sl_kernel_rfl) y

theorem coversC18 (c : Dev nD) (t : Fin cfg0.N) (h0) (h1) (S) (y) : ∃ pc ∈ (storesC m c t h0 h1 S).w18, y ∈ pc.1.set :=
  View.cover_of_tiledL (storesC m c t h0 h1 S).w18 S1x4x128x256.size (by sl_kernel_rfl) y
theorem coversC19 (c : Dev nD) (t : Fin cfg0.N) (h0) (h1) (S) (y) : ∃ pc ∈ (storesC m c t h0 h1 S).w19, y ∈ pc.1.set :=
  View.cover_of_tiledL (storesC m c t h0 h1 S).w19 S1x4x128x256.size (by sl_kernel_rfl) y

/-- The scratch before point `n`. -/
def scr (c : Dev nD) : ℕ → Vec F S2x4x128x256 .f32
  | 0 => VS0_0.read (Elt F) VS0_0.junk
  | n + 1 => if h : n < cfg0.N then leftScr (stores m c ⟨n, h⟩ (scr c n)) else scr c n

/-- The stores of point `t` in the launch. -/
def storesAt (c : Dev nD) (t : Fin cfg0.N) : Stores F := stores m c t (scr m c t.val)

theorem scr_succ (c : Dev nD) (t : Fin cfg0.N) : scr m c (t.val + 1) = leftScr (storesAt m c t) := by
  rw [scr, dif_pos t.isLt]; rfl

/-! ## The proof data -/

/-- The scratch at anything before the first point, then at what the points before left. -/
def PhiS (c : Dev nD) : ℕ → sProp 𝕄
  | 0 => Pipeline.ΦA spec0 c
  | n + 1 => iprop(owns (c : Thread nD τ) scM0_0 fullShare (scr m c (n + 1)) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => left16 (storesAt m c t)
    | ⟨17, _⟩ => left17 (storesAt m c t)
    | ⟨18, _⟩ => left18 (storesAt m c t)
    | ⟨19, _⟩ => left19 (storesAt m c t)
    | ⟨20, _⟩ => left20 (storesAt m c t)
    | ⟨21, _⟩ => left21 (storesAt m c t)
    | ⟨22, _⟩ => left22 (storesAt m c t)
    | ⟨23, _⟩ => left23 (storesAt m c t)
    | ⟨_ + 24, h⟩ => absurd h (Nat.not_lt.2 (Nat.le_add_left _ _))
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = left16 (storesAt m c t) := by dsimp only [dats]
theorem after0_17 (c : Dev nD) (t : Fin cfg0.N) : (dats m 0 c).after 17 t = left17 (storesAt m c t) := by dsimp only [dats]
theorem after0_18 (c : Dev nD) (t : Fin cfg0.N) : (dats m 0 c).after 18 t = left18 (storesAt m c t) := by dsimp only [dats]
theorem after0_19 (c : Dev nD) (t : Fin cfg0.N) : (dats m 0 c).after 19 t = left19 (storesAt m c t) := by dsimp only [dats]
theorem after0_20 (c : Dev nD) (t : Fin cfg0.N) : (dats m 0 c).after 20 t = left20 (storesAt m c t) := by dsimp only [dats]
theorem after0_21 (c : Dev nD) (t : Fin cfg0.N) : (dats m 0 c).after 21 t = left21 (storesAt m c t) := by dsimp only [dats]
theorem after0_22 (c : Dev nD) (t : Fin cfg0.N) : (dats m 0 c).after 22 t = left22 (storesAt m c t) := by dsimp only [dats]
theorem after0_23 (c : Dev nD) (t : Fin cfg0.N) : (dats m 0 c).after 23 t = left23 (storesAt m c t) := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t
    ∗ (dats m 0 c).leavesExact 19 t
    ∗ (dats m 0 c).leavesExact 20 t
    ∗ (dats m 0 c).leavesExact 21 t
    ∗ (dats m 0 c).leavesExact 22 t
    ∗ (dats m 0 c).leavesExact 23 t)

/-- A run of point `t`: from the inputs at their blocks, `P18` and `P19` of the two windows the last points fill and `PS` of
    the scratch, the body makes the stores `L` and leaves `Q18` and `Q19`. -/
def Runs (c : Dev nD) (t : Fin cfg0.N) (L : Stores F) (P18 P19 Q18 Q19 PS : sProp 𝕄) : Prop :=
  ∀ (E : Set ℕ) (K : PUnit → sProp 𝕄),
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t) ∗ owns (c : Thread nD τ) (ms0_12 t) fullShare (iblk m c 12 t) ∗ owns (c : Thread nD τ) (ms0_13 t) fullShare (iblk m c 13 t) ∗ owns (c : Thread nD τ) (ms0_14 t) fullShare (iblk m c 14 t) ∗ owns (c : Thread nD τ) (ms0_15 t) fullShare (iblk m c 15 t) ∗ (∃ d, owns (c : Thread nD τ) (ms0_16 t) fullShare d) ∗ (∃ d, owns (c : Thread nD τ) (ms0_17 t) fullShare d) ∗ P18 ∗ P19 ∗ (∃ d, owns (c : Thread nD τ) (ms0_20 t) fullShare d) ∗ (∃ d, owns (c : Thread nD τ) (ms0_21 t) fullShare d) ∗ (∃ d, owns (c : Thread nD τ) (ms0_22 t) fullShare d) ∗ (∃ d, owns (c : Thread nD τ) (ms0_23 t) fullShare d) ∗ PS
        ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare (iblk m c 9 t) ∗ owns (c : Thread nD τ) (ms0_10 t) fullShare (iblk m c 10 t) ∗ owns (c : Thread nD τ) (ms0_11 t) fullShare (iblk m c 11 t) ∗ owns (c : Thread nD τ) (ms0_12 t) fullShare (iblk m c 12 t) ∗ owns (c : Thread nD τ) (ms0_13 t) fullShare (iblk m c 13 t) ∗ owns (c : Thread nD τ) (ms0_14 t) fullShare (iblk m c 14 t) ∗ owns (c : Thread nD τ) (ms0_15 t) fullShare (iblk m c 15 t) ∗ (∃ f, (ms0_16 t).view.loc (c : Thread nD τ) ↦[(ms0_16 t).view.set]{fullShare} (ms0_16 t).view.writes (Elt F) f L.w16) ∗ (∃ f, (ms0_17 t).view.loc (c : Thread nD τ) ↦[(ms0_17 t).view.set]{fullShare} (ms0_17 t).view.writes (Elt F) f L.w17) ∗ Q18 ∗ Q19 ∗ (∃ f, (ms0_20 t).view.loc (c : Thread nD τ) ↦[(ms0_20 t).view.set]{fullShare} (ms0_20 t).view.writes (Elt F) f L.w20) ∗ (∃ f, (ms0_21 t).view.loc (c : Thread nD τ) ↦[(ms0_21 t).view.set]{fullShare} (ms0_21 t).view.writes (Elt F) f L.w21) ∗ (∃ f, (ms0_22 t).view.loc (c : Thread nD τ) ↦[(ms0_22 t).view.set]{fullShare} (ms0_22 t).view.writes (Elt F) f L.w22) ∗ (∃ f, (ms0_23 t).view.loc (c : Thread nD τ) ↦[(ms0_23 t).view.set]{fullShare} (ms0_23 t).view.writes (Elt F) f L.w23) ∗ (∃ f, scM0_0.view.loc (c : Thread nD τ) ↦[scM0_0.view.set]{fullShare} scM0_0.view.writes (Elt F) f L.scr)) -∗ K ⟨⟩))
      ⊢ wp frame (wpE (defs₀ (F := F)) Variants.none c none) E (bodyAt0 t) K

set_option maxHeartbeats 4000000 in
/-- The obligation of point `t` from a run of it. -/
theorem sound_of (c : Dev nD) (t : Fin cfg0.N) (P18 P19 Q18 Q19 : Vec F S1x4x128x256 .f32 → sProp 𝕄) (PS : sProp 𝕄)
    (hr : ∀ d d', Runs m c t (storesAt m c t) (P18 d) (P19 d') (Q18 d) (Q19 d') PS) (hc : Covers (storesAt m c t))
    (hS : (dats m 0 c).Φ t.castSucc ⊢ iprop(PS ∗ (∃ r, prngReg c r)))
    (h18 : ∀ d, owns (c : Thread nD τ) (ms0_18 t) fullShare ((dats m 0 c).before 18 t d) ⊢ P18 d) (h19 : ∀ d, owns (c : Thread nD τ) (ms0_19 t) fullShare ((dats m 0 c).before 19 t d) ⊢ P19 d)
    (g18 : ∀ d, Q18 d ⊢ (dats m 0 c).leavesExact 18 t) (g19 : ∀ d, Q19 d ⊢ (dats m 0 c).leavesExact 19 t) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl]
  rw [show (dats m 0 c).Φ t.succ = PhiS m c (t.val + 1) from rfl, PhiS, scr_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  rw [show (dats m 0 c).leavesExact 6 t = owns (c : Thread nD τ) (ms0_6 t) fullShare ((dats m 0 c).after 6 t) from by
    unfold Dat.leavesExact; rw [liveAt0_6 t], after0_6]
  rw [show (dats m 0 c).leavesExact 7 t = owns (c : Thread nD τ) (ms0_7 t) fullShare ((dats m 0 c).after 7 t) from by
    unfold Dat.leavesExact; rw [liveAt0_7 t], after0_7]
  rw [show (dats m 0 c).leavesExact 8 t = owns (c : Thread nD τ) (ms0_8 t) fullShare ((dats m 0 c).after 8 t) from by
    unfold Dat.leavesExact; rw [liveAt0_8 t], after0_8]
  rw [show (dats m 0 c).leavesExact 9 t = owns (c : Thread nD τ) (ms0_9 t) fullShare ((dats m 0 c).after 9 t) from by
    unfold Dat.leavesExact; rw [liveAt0_9 t], after0_9]
  rw [show (dats m 0 c).leavesExact 10 t = owns (c : Thread nD τ) (ms0_10 t) fullShare ((dats m 0 c).after 10 t) from by
    unfold Dat.leavesExact; rw [liveAt0_10 t], after0_10]
  rw [show (dats m 0 c).leavesExact 11 t = owns (c : Thread nD τ) (ms0_11 t) fullShare ((dats m 0 c).after 11 t) from by
    unfold Dat.leavesExact; rw [liveAt0_11 t], after0_11]
  rw [show (dats m 0 c).leavesExact 12 t = owns (c : Thread nD τ) (ms0_12 t) fullShare ((dats m 0 c).after 12 t) from by
    unfold Dat.leavesExact; rw [liveAt0_12 t], after0_12]
  rw [show (dats m 0 c).leavesExact 13 t = owns (c : Thread nD τ) (ms0_13 t) fullShare ((dats m 0 c).after 13 t) from by
    unfold Dat.leavesExact; rw [liveAt0_13 t], after0_13]
  rw [show (dats m 0 c).leavesExact 14 t = owns (c : Thread nD τ) (ms0_14 t) fullShare ((dats m 0 c).after 14 t) from by
    unfold Dat.leavesExact; rw [liveAt0_14 t], after0_14]
  rw [show (dats m 0 c).leavesExact 15 t = owns (c : Thread nD τ) (ms0_15 t) fullShare ((dats m 0 c).after 15 t) from by
    unfold Dat.leavesExact; rw [liveAt0_15 t], after0_15]
  rw [show (dats m 0 c).leavesExact 16 t = owns (c : Thread nD τ) (ms0_16 t) fullShare ((dats m 0 c).after 16 t) from by
    unfold Dat.leavesExact; rw [liveAt0_16 t], after0_16]
  rw [show (dats m 0 c).leavesExact 17 t = owns (c : Thread nD τ) (ms0_17 t) fullShare ((dats m 0 c).after 17 t) from by
    unfold Dat.leavesExact; rw [liveAt0_17 t], after0_17]
  rw [show (dats m 0 c).leavesExact 20 t = owns (c : Thread nD τ) (ms0_20 t) fullShare ((dats m 0 c).after 20 t) from by
    unfold Dat.leavesExact; rw [liveAt0_20 t], after0_20]
  rw [show (dats m 0 c).leavesExact 21 t = owns (c : Thread nD τ) (ms0_21 t) fullShare ((dats m 0 c).after 21 t) from by
    unfold Dat.leavesExact; rw [liveAt0_21 t], after0_21]
  rw [show (dats m 0 c).leavesExact 22 t = owns (c : Thread nD τ) (ms0_22 t) fullShare ((dats m 0 c).after 22 t) from by
    unfold Dat.leavesExact; rw [liveAt0_22 t], after0_22]
  rw [show (dats m 0 c).leavesExact 23 t = owns (c : Thread nD τ) (ms0_23 t) fullShare ((dats m 0 c).after 23 t) from by
    unfold Dat.leavesExact; rw [liveAt0_23 t], after0_23]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩⟩
  ihave HP := hS $$ HP
  icases HP with ⟨HS, Hg⟩
  iapply (hr _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iapply (h18 _); iexact H18
  isplitl [H19]; · iapply (h19 _); iexact H19
  isplitl [H20]; · iexists _; iexact H20
  isplitl [H21]; · iexists _; iexact H21
  isplitl [H22]; · iexists _; iexact H22
  isplitl [H23]; · iexists _; iexact H23
  isplitl [HS]; · iexact HS
  iintro ⟨H0, H1, H2, H3, H4, H5, H6, H7, H8, H9, H10, H11, H12, H13, H14, H15, ⟨%e16, H16⟩, ⟨%e17, H17⟩, H18, H19, ⟨%e20, H20⟩, ⟨%e21, H21⟩, ⟨%e22, H22⟩, ⟨%e23, H23⟩, ⟨%es, HS⟩⟩
  isplitl [HS Hg]
  · isplitl [HS]
    · unfold owns; iexists _; isplitr
      swap; · iexact HS
      ipureintro; exact View.read_writes_of_cover _ _ _ _ _ hc.scr
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]
  · unfold owns; iexists _; isplitr
    swap; · iexact H16
    ipureintro; exact View.read_writes_of_cover _ _ _ _ _ hc.w16
  isplitl [H17]
  · unfold owns; iexists _; isplitr
    swap; · iexact H17
    ipureintro; exact View.read_writes_of_cover _ _ _ _ _ hc.w17
  isplitl [H18]; · iapply (g18 _); iexact H18
  isplitl [H19]; · iapply (g19 _); iexact H19
  isplitl [H20]
  · unfold owns; iexists _; isplitr
    swap; · iexact H20
    ipureintro; exact View.read_writes_of_cover _ _ _ _ _ hc.w20
  isplitl [H21]
  · unfold owns; iexists _; isplitr
    swap; · iexact H21
    ipureintro; exact View.read_writes_of_cover _ _ _ _ _ hc.w21
  isplitl [H22]
  · unfold owns; iexists _; isplitr
    swap; · iexact H22
    ipureintro; exact View.read_writes_of_cover _ _ _ _ _ hc.w22
  unfold owns; iexists _; isplitr
  swap; · iexact H23
  ipureintro; exact View.read_writes_of_cover _ _ _ _ _ hc.w23

/-- Before a point that isn't the first the scratch is held at what the points before left. -/
theorem PhiS_castSucc (c : Dev nD) (t : Fin cfg0.N) (hz : t.val ≠ 0) : (dats m 0 c).Φ t.castSucc
    = iprop(owns (c : Thread nD τ) scM0_0 fullShare (scr m c t.val) ∗ (∃ r, prngReg c r)) := by
  obtain ⟨n, hn⟩ := t
  cases n with
  | zero => exact absurd rfl hz
  | succ n => rfl

/-- Before any point it is held at something. -/
theorem PhiS_any (c : Dev nD) (t : Fin (cfg0.N + 1)) :
    (dats m 0 c).Φ t ⊢ iprop((∃ d, owns (c : Thread nD τ) scM0_0 fullShare d) ∗ (∃ r, prngReg c r)) := by
  obtain ⟨n, hn⟩ := t
  cases n with
  | zero =>
    rw [show (dats m 0 c).Φ ⟨0, hn⟩ = Pipeline.ΦA spec0 c from rfl, PhiA0_eq]
  | succ n =>
    rw [show (dats m 0 c).Φ ⟨n + 1, hn⟩ = iprop(owns (c : Thread nD τ) scM0_0 fullShare (scr m c (n + 1)) ∗ (∃ r, prngReg c r)) from rfl]
    iintro ⟨HS, Hg⟩
    isplitl [HS]
    · iexists _; iexact HS
    iexact Hg

theorem leavesA18 (c : Dev nD) (t : Fin cfg0.N) (h0 : t.val % 16 = 0) (h1 : ¬t.val % 16 = 15) (d) :
    owns (c : Thread nD τ) (ms0_18 t) fullShare ((dats m 0 c).before 18 t d) ⊢ (dats m 0 c).leavesExact 18 t := by
  rw [Dat.leavesExact_idle (dats m 0 c) 18 t (idleAt0_18_A t ((hcond0_0 t).mpr h0) (fun h => h1 ((hcond0_1 t).mp h))) (noFlush0_18_A t ((hcond0_0 t).mpr h0) (fun h => h1 ((hcond0_1 t).mp h)))]
  iintro H; iexists _; iexact H

theorem leavesA19 (c : Dev nD) (t : Fin cfg0.N) (h0 : t.val % 16 = 0) (h1 : ¬t.val % 16 = 15) (d) :
    owns (c : Thread nD τ) (ms0_19 t) fullShare ((dats m 0 c).before 19 t d) ⊢ (dats m 0 c).leavesExact 19 t := by
  rw [Dat.leavesExact_idle (dats m 0 c) 19 t (idleAt0_19_A t ((hcond0_0 t).mpr h0) (fun h => h1 ((hcond0_1 t).mp h))) (noFlush0_19_A t ((hcond0_0 t).mpr h0) (fun h => h1 ((hcond0_1 t).mp h)))]
  iintro H; iexists _; iexact H

theorem leavesB18 (c : Dev nD) (t : Fin cfg0.N) (h0 : ¬t.val % 16 = 0) (h1 : ¬t.val % 16 = 15) (d) :
    owns (c : Thread nD τ) (ms0_18 t) fullShare ((dats m 0 c).before 18 t d) ⊢ (dats m 0 c).leavesExact 18 t := by
  rw [Dat.leavesExact_idle (dats m 0 c) 18 t (idleAt0_18_B t (fun h => h0 ((hcond0_0 t).mp h)) (fun h => h1 ((hcond0_1 t).mp h))) (noFlush0_18_B t (fun h => h0 ((hcond0_0 t).mp h)) (fun h => h1 ((hcond0_1 t).mp h)))]
  iintro H; iexists _; iexact H

theorem leavesB19 (c : Dev nD) (t : Fin cfg0.N) (h0 : ¬t.val % 16 = 0) (h1 : ¬t.val % 16 = 15) (d) :
    owns (c : Thread nD τ) (ms0_19 t) fullShare ((dats m 0 c).before 19 t d) ⊢ (dats m 0 c).leavesExact 19 t := by
  rw [Dat.leavesExact_idle (dats m 0 c) 19 t (idleAt0_19_B t (fun h => h0 ((hcond0_0 t).mp h)) (fun h => h1 ((hcond0_1 t).mp h))) (noFlush0_19_B t (fun h => h0 ((hcond0_0 t).mp h)) (fun h => h1 ((hcond0_1 t).mp h)))]
  iintro H; iexists _; iexact H

theorem leavesC18 (c : Dev nD) (t : Fin cfg0.N) (h0 : ¬t.val % 16 = 0) (h1 : t.val % 16 = 15) :
    iprop(∃ f, (ms0_18 t).view.loc (c : Thread nD τ) ↦[(ms0_18 t).view.set]{fullShare} (ms0_18 t).view.writes (Elt F) f (storesAt m c t).w18)
      ⊢ (dats m 0 c).leavesExact 18 t := by
  rw [show (dats m 0 c).leavesExact 18 t = owns (c : Thread nD τ) (ms0_18 t) fullShare ((dats m 0 c).after 18 t) from by
    unfold Dat.leavesExact; rw [liveAt0_18_C t (fun h => h0 ((hcond0_0 t).mp h)) ((hcond0_1 t).mpr h1)], after0_18]
  have hc : ∀ y, ∃ pc ∈ (storesAt m c t).w18, y ∈ pc.1.set := by
    rw [storesAt, stores_C m c t _ h0 h1]; exact coversC18 m c t h0 h1 _
  iintro ⟨%e, H⟩
  unfold owns; iexists _; isplitr
  swap; · iexact H
  ipureintro; exact View.read_writes_of_cover _ _ _ _ _ hc

theorem leavesC19 (c : Dev nD) (t : Fin cfg0.N) (h0 : ¬t.val % 16 = 0) (h1 : t.val % 16 = 15) :
    iprop(∃ f, (ms0_19 t).view.loc (c : Thread nD τ) ↦[(ms0_19 t).view.set]{fullShare} (ms0_19 t).view.writes (Elt F) f (storesAt m c t).w19)
      ⊢ (dats m 0 c).leavesExact 19 t := by
  rw [show (dats m 0 c).leavesExact 19 t = owns (c : Thread nD τ) (ms0_19 t) fullShare ((dats m 0 c).after 19 t) from by
    unfold Dat.leavesExact; rw [liveAt0_19_C t (fun h => h0 ((hcond0_0 t).mp h)) ((hcond0_1 t).mpr h1)], after0_19]
  have hc : ∀ y, ∃ pc ∈ (storesAt m c t).w19, y ∈ pc.1.set := by
    rw [storesAt, stores_C m c t _ h0 h1]; exact coversC19 m c t h0 h1 _
  iintro ⟨%e, H⟩
  unfold owns; iexists _; isplitr
  swap; · iexact H
  ipureintro; exact View.read_writes_of_cover _ _ _ _ _ hc

/-- The obligation of every point. -/
theorem sound_body (c : Dev nD) (t : Fin cfg0.N) :
    bodyPre m c t ⊢ wp frame (wpE (defs₀ (F := F)) Variants.none c none) Set.univ (bodyAt0 t) (fun _ => bodyPost m c t) := by
  by_cases h0 : t.val % 16 = 0
  · have h1 : ¬t.val % 16 = 15 := by omega
    have e : storesAt m c t = storesA m c t h0 h1 := stores_A m c t _ h0 h1
    exact sound_of m c t (fun d => owns (c : Thread nD τ) (ms0_18 t) fullShare ((dats m 0 c).before 18 t d)) (fun d => owns (c : Thread nD τ) (ms0_19 t) fullShare ((dats m 0 c).before 19 t d))
      (fun d => owns (c : Thread nD τ) (ms0_18 t) fullShare ((dats m 0 c).before 18 t d)) (fun d => owns (c : Thread nD τ) (ms0_19 t) fullShare ((dats m 0 c).before 19 t d)) _
      (fun d d' => by rw [e]; exact fun E K => (runA m c t h0 h1).2.2.2.2.2.2.2.2.2 _ _ E K) (e ▸ coversA m c t h0 h1)
      (PhiS_any m c _) (fun _ => .rfl) (fun _ => .rfl) (leavesA18 m c t h0 h1) (leavesA19 m c t h0 h1)
  · have hS : (dats m 0 c).Φ t.castSucc ⊢ iprop(owns (c : Thread nD τ) scM0_0 fullShare (scr m c t.val) ∗ (∃ r, prngReg c r)) := by
      rw [PhiS_castSucc m c t fun h => h0 (by omega)]
    by_cases h1 : t.val % 16 = 15
    · have e : storesAt m c t = storesC m c t h0 h1 (scr m c t.val) := stores_C m c t _ h0 h1
      exact sound_of m c t (fun _ => iprop(∃ d, owns (c : Thread nD τ) (ms0_18 t) fullShare d)) (fun _ => iprop(∃ d, owns (c : Thread nD τ) (ms0_19 t) fullShare d))
        (fun _ => iprop(∃ f, (ms0_18 t).view.loc (c : Thread nD τ) ↦[(ms0_18 t).view.set]{fullShare} (ms0_18 t).view.writes (Elt F) f (storesAt m c t).w18))
        (fun _ => iprop(∃ f, (ms0_19 t).view.loc (c : Thread nD τ) ↦[(ms0_19 t).view.set]{fullShare} (ms0_19 t).view.writes (Elt F) f (storesAt m c t).w19)) _
        (fun _ _ => by rw [e]; exact fun E K => (runC m c t h0 h1 (scr m c t.val)).2.2.2.2.2.2.2.2.2 E K) (e ▸ coversC m c t h0 h1 _)
        hS (fun d => by iintro H; iexists _; iexact H) (fun d => by iintro H; iexists _; iexact H)
        (fun _ => leavesC18 m c t h0 h1) (fun _ => leavesC19 m c t h0 h1)
    · have e : storesAt m c t = storesB m c t h0 h1 (scr m c t.val) := stores_B m c t _ h0 h1
      exact sound_of m c t (fun d => owns (c : Thread nD τ) (ms0_18 t) fullShare ((dats m 0 c).before 18 t d)) (fun d => owns (c : Thread nD τ) (ms0_19 t) fullShare ((dats m 0 c).before 19 t d))
        (fun d => owns (c : Thread nD τ) (ms0_18 t) fullShare ((dats m 0 c).before 18 t d)) (fun d => owns (c : Thread nD τ) (ms0_19 t) fullShare ((dats m 0 c).before 19 t d)) _
        (fun d d' => by rw [e]; exact fun E K => (runB m c t h0 h1 (scr m c t.val)).2.2.2.2.2.2.2.2.2 _ _ E K) (e ▸ coversB m c t h0 h1 _)
        hS (fun _ => .rfl) (fun _ => .rfl) (leavesB18 m c t h0 h1) (leavesB19 m c t h0 h1)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := Idealize.SL.BI.Entails.refl _

theorem hout (c : Dev nD) : (dats m 0 c).Φ (Fin.last cfg0.N) ⊢ Pipeline.ΦA spec0 c := by
  rw [PhiA0_eq]; exact PhiS_any m c _

/-! ## The launch -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.Host.Frame.lean ====
module

public import proofs.«01_k».proof.Proof.Gen.ReferenceIdeal.Run

/-! The reference's frame, from its run. -/

@[expose] public section

noncomputable section

namespace Cert.ReferenceIdeal.Value

open Idealize.ShloMosaic Idealize.ShloMosaic.TcCoe Idealize.SL.Sem
open Cert.ReferenceIdeal.Gen

variable {F : FTy → Type} [FloatOps F]
variable (m : (ℓ : Loc nD τ sig) → Buf (Elt F) ℓ) (ρ : Dev nD → PrngReg)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11))
      ∧ r.2.sem = fun _ => 0) :=
  (θ_run defs _ _).mono (fun r h => ⟨fun c => (h c).2, funext fun s => by
    obtain ⟨c, s⟩ := s
    cases s with
    | reg s => exact Fin.elim0 s
    | dma s => exact Fin.elim0 s⟩) (run m ρ)

end Cert.ReferenceIdeal.Value

end
-- ==== Proof.Ideal.Chunk.lean ====
module

public import proofs.«01_k».proof.Proof.Ideal.Points
public import Idealize.ShloMosaic.Lib.Pointwise

/-! One chunk of 128 tokens of one head, in the kernel's own operations, for either direction: what it adds to the
output and the state that it leaves. The two directions differ in the mask (`keep`) and in the rows of the cumulative
sums that are taken for the chunk's total (`tot`) and for its midpoint (`mid`). -/

@[expose] public section

set_option maxRecDepth 16384

noncomputable section

namespace Cert.KernelIdeal.Gen

open Idealize.ShloMosaic Idealize.SL.Sem

variable {F : FTy → Type} [FloatOps F] [Named F]

namespace Chunk

/-- A tile of queries or keys in f32. -/
def wide (x : Vec F S1x128x128 .bf16) : FVec F S128x128 .f32 :=
  extf .f32 (shapeCast S128x128 x shapeCasts_S1x128x128_S128x128) bitsLt_bf16_f32

/-- A tile of values. -/
def vals (v : Vec F S1x128x256 .bf16) : FVec F S128x256 .bf16 :=
  shapeCast S128x256 v shapeCasts_S1x128x256_S128x256

/-- The logarithms of the gates in base 2, divided by the temperature, for all four heads. -/
def gates (lr : Vec F S1x128x128 .f32) (w : Vec F S128x512 .bf16) (b : Vec F S1x512 .f32) : FVec F S128x512 .f32 :=
  have z : FVec F S128x512 .f32 :=
    addf (matmul dot_S128x128_S128x512_S128x512_1_0_0_1_n_n none
        (truncf .bf16 (shapeCast S128x128 lr shapeCasts_S1x128x128_S128x128) bitsLt_bf16_f32)
        (shapeCast S128x512 w shapeCasts_S128x512_S128x512 : FVec F S128x512 .bf16)
        (constant S128x512 .f32 0x00000000#32))
      (broadcastTo S128x512 (shapeCast S1x512 b shapeCasts_S1x512_S1x512) broadcasts_S1x512_S128x512)
  mulf
    (subf (minimumf z (broadcast S128x512 (Scalar.ofBits .f32 0x00000000#32)))
      (log (addf (broadcast S128x512 (Scalar.ofBits .f32 0x3F800000#32))
        (exp (subf (broadcast S128x512 (Scalar.ofBits .f32 0x00000000#32)) (absf z))))))
    (broadcast S128x512 (Named.named κ "log2e_over_tau" 0x3DB8AA3B#32))

/-- The mask of a direction as a matrix of zeros and ones. -/
def tri (keep : IVec S128x128 1) : FVec F S128x128 .bf16 :=
  truncf .bf16 (select keep (broadcast S128x128 (Scalar.ofBits .f32 0x3F800000#32) : FVec F S128x128 .f32)
    (broadcast S128x128 (Scalar.ofBits .f32 0x00000000#32))) bitsLt_bf16_f32

/-- The cumulative sums of the gates in a direction: one product with the mask, the gates in two halves. -/
def cumAll (keep : IVec S128x128 1) (g : FVec F S128x512 .f32) : FVec F S128x512 .f32 :=
  have hi : FVec F S128x512 .bf16 := truncf .bf16 g bitsLt_bf16_f32
  have lo : FVec F S128x512 .bf16 := truncf .bf16 (subf g (extf .f32 hi bitsLt_bf16_f32)) bitsLt_bf16_f32
  have both : FVec F S128x1024 .f32 := matmul dot_S128x128_S128x1024_S128x1024_1_0_0_1_n_n none (tri keep)
    (concatenate S128x1024 1 [⟨S128x512, hi⟩, ⟨S128x512, lo⟩] concatenates_S128x512_S128x512_S128x1024_d1)
    (constant S128x1024 .f32 0x00000000#32)
  addf (extractStridedSlice S128x512 ![0, 0] both slices_S128x1024_o0_0_S128x512)
    (extractStridedSlice S128x512 ![0, 512] both slices_S128x1024_o0_512_S128x512)

/-- The queries scaled for the products within the chunk. -/
def qMid (cum : FVec F S128x128 .f32) (mid : FVec F S1x128 .f32) (q : FVec F S128x128 .f32) : FVec F S128x128 .bf16 :=
  truncf .bf16 (mulf q (exp2 (subf cum (broadcastTo S128x128
    (subf mid (broadcast S1x128 (Scalar.ofBits .f32 0xC0600000#32))) broadcasts_S1x128_S128x128)))) bitsLt_bf16_f32

/-- The keys scaled for the products within the chunk. -/
def kMid (cum : FVec F S128x128 .f32) (mid : FVec F S1x128 .f32) (k : FVec F S128x128 .f32) : FVec F S128x128 .bf16 :=
  truncf .bf16 (mulf k (exp2 (subf (broadcastTo S128x128 mid broadcasts_S1x128_S128x128) cum))) bitsLt_bf16_f32

/-- The queries scaled for the product with the state at the chunk's start. -/
def qDec (cum : FVec F S128x128 .f32) (q : FVec F S128x128 .f32) : FVec F S128x128 .bf16 :=
  truncf .bf16 (mulf q (exp2 (addf cum (broadcast S128x128 (Scalar.ofBits .f32 0xC0600000#32))))) bitsLt_bf16_f32

/-- The keys, decayed to the chunk's end and transposed. -/
def kEnd (cum : FVec F S128x128 .f32) (tot : FVec F S1x128 .f32) (k : FVec F S128x128 .f32) : FVec F S128x128 .bf16 :=
  truncf .bf16 (transpose S128x128 [1, 0]
    (mulf k (exp2 (subf (broadcastTo S128x128 tot broadcasts_S1x128_S128x128) cum)))
    transposes_S128x128_p1_0_S128x128) bitsLt_bf16_f32

/-- The decay over the whole chunk, a column of it in every lane. -/
def decay (tot : FVec F S1x128 .f32) : FVec F S128x128 .f32 :=
  transpose S128x128 [1, 0] (broadcastTo S128x128 (shapeCast S1x128 (exp2 tot) shapeCasts_S1x128_S1x128)
    broadcasts_S1x128_S128x128) transposes_S128x128_p1_0_S128x128

/-- The masked products of queries and keys of the chunk. -/
def scores (keep : IVec S128x128 1) (q k : FVec F S128x128 .bf16) : FVec F S128x128 .bf16 :=
  truncf .bf16 (select keep
    (matmul dot_S128x128_S128x128_S128x128_1_1_0_0_n_n none q k (constant S128x128 .f32 0x00000000#32))
    (broadcast S128x128 (Scalar.ofBits .f32 0x00000000#32))) bitsLt_bf16_f32

/-- The chunk's output, from the state at its start. -/
def out (keep : IVec S128x128 1) (cum : FVec F S128x128 .f32) (mid : FVec F S1x128 .f32)
    (q k : Vec F S1x128x128 .bf16) (v : Vec F S1x128x256 .bf16) (s : FVec F S128x256 .f32) : FVec F S1x128x256 .bf16 :=
  shapeCast S1x128x256 (truncf .bf16
    (matmul dot_S128x256_S256x256_S128x256_1_0_0_1_n_n none
      (concatenate S128x256 1 [⟨S128x128, scores keep (qMid cum mid (wide q)) (kMid cum mid (wide k))⟩,
        ⟨S128x128, qDec cum (wide q)⟩] concatenates_S128x128_S128x128_S128x256_d1)
      (concatenate S256x256 0 [⟨S128x256, vals v⟩, ⟨S128x256, truncf .bf16 s bitsLt_bf16_f32⟩]
        concatenates_S128x256_S128x256_S256x256_d0)
      (constant S128x256 .f32 0x00000000#32)) bitsLt_bf16_f32) shapeCasts_S128x256_S1x128x256

/-- The state that the chunk leaves. -/
def next (cum : FVec F S128x128 .f32) (tot : FVec F S1x128 .f32)
    (k : Vec F S1x128x128 .bf16) (v : Vec F S1x128x256 .bf16) (s : FVec F S128x256 .f32) : FVec F S128x256 .f32 :=
  addf (mulf s (concatenate S128x256 1 [⟨S128x128, decay tot⟩, ⟨S128x128, decay tot⟩]
      concatenates_S128x128_S128x128_S128x256_d1))
    (matmul dot_S128x128_S128x256_S128x256_1_0_0_1_n_n none (kEnd cum tot (wide k)) (vals v)
      (constant S128x256 .f32 0x00000000#32))

/-- The forward mask: a position takes itself and the ones before it. -/
def keepF : IVec S128x128 1 := cmpi .sge (iota .tc S128x128 32 [0] iota_S128x128_d0_w32) (iota .tc S128x128 32 [1] iota_S128x128_d1_w32)

theorem inb_v (j h : Fin 4) : ∀ k, ![0, 128 * j.val, 256 * h.val] k + S1x128x256.size k ≤ S1x512x1024.size k := by
  decide +revert
theorem inb_lr (j : Fin 4) : ∀ k, ![0, 128 * j.val, 0] k + S1x128x128.size k ≤ S1x512x128.size k := by
  decide +revert
theorem slices_cum (h : Fin 4) : S128x512.Slices ![0, 128 * h.val] S128x128 := by
  decide +revert

/-- The tiles that a point reads: of the queries, keys, values and the gates' projections for each chunk (and head),
the gates' weights, and the states of the heads before the point. -/
structure Tiles (F : FTy → Type) where
  q : Fin 4 → Fin 4 → Vec F S1x128x128 .bf16
  k : Fin 4 → Fin 4 → Vec F S1x128x128 .bf16
  v : Fin 4 → Fin 4 → Vec F S1x128x256 .bf16
  lr : Fin 4 → Vec F S1x128x128 .f32
  w : Vec F S128x512 .bf16
  b : Vec F S1x512 .f32
  s : Fin 4 → FVec F S128x256 .f32

/-- The cumulative sums of a head in a chunk. -/
def cumF (T : Tiles F) (j : ℕ) (h : Fin 4) : FVec F S128x128 .f32 :=
  extractStridedSlice S128x128 ![0, 128 * h.val] (cumAll keepF (gates (T.lr (Fin.ofNat 4 j)) T.w T.b)) (slices_cum h)

/-- The state of a head before chunk `j`. -/
def stF (T : Tiles F) (h : Fin 4) : ℕ → FVec F S128x256 .f32
  | 0 => T.s h
  | j + 1 => next (cumF T j h) (extractStridedSlice S1x128 ![127, 0] (cumF T j h) slices_S128x128_o127_0_S1x128)
      (T.k (Fin.ofNat 4 j) h) (T.v (Fin.ofNat 4 j) h) (stF T h j)

/-- The output of a head in chunk `j`. -/
def outF (T : Tiles F) (j : ℕ) (h : Fin 4) : FVec F S1x128x256 .bf16 :=
  out keepF (cumF T j h) (extractStridedSlice S1x128 ![63, 0] (cumF T j h) slices_S128x128_o63_0_S1x128)
    (T.q (Fin.ofNat 4 j) h) (T.k (Fin.ofNat 4 j) h) (T.v (Fin.ofNat 4 j) h) (stF T h j)

theorem inb_q (j h : Fin 4) : ∀ k, ![0, 128 * j.val, 128 * h.val] k + S1x128x128.size k ≤ S1x512x1024.size k := by
  decide +revert
theorem inb_k (j h : Fin 4) : ∀ k, ![0, 128 * j.val, 512 + 128 * h.val] k + S1x128x128.size k ≤ S1x512x1024.size k := by
  decide +revert

section
variable (arg2 : Memref sig .tc .vmem S1x512x1024 .bf16) (harg2 : arg2.IsWhole) (arg3 : Memref sig .tc .vmem S1x512x1024 .bf16)
  (harg3 : arg3.IsWhole) (arg4 : Memref sig .tc .vmem S1x512x128 .f32) (harg4 : arg4.IsWhole) (arg8 : Memref sig .tc .vmem S128x512 .bf16) (harg8 : arg8.IsWhole)
  (arg9 : Memref sig .tc .vmem S1x512 .f32) (harg9 : arg9.IsWhole)
    (x0 : Vec F S1x512x1024 .bf16) (x1 : Vec F S1x512x1024 .bf16) (x2 : Vec F S1x512x128 .f32) (x6 : Vec F S128x512 .bf16) (x7 : Vec F S1x512 .f32)
    (s : Fin 4 → FVec F S128x256 .f32)

/-- The tiles as the point loads them. -/
def loaded : Tiles F where
  q j h := View.readAt (Elt F) arg2.view (Rect.unit (s := S1x512x1024) ![0, 128 * j.val, 128 * h.val] S1x128x128.size (inb_q j h)).toLoadRect (harg2.unread x0)
  k j h := View.readAt (Elt F) arg2.view (Rect.unit (s := S1x512x1024) ![0, 128 * j.val, 512 + 128 * h.val] S1x128x128.size (inb_k j h)).toLoadRect (harg2.unread x0)
  v j h := View.readAt (Elt F) arg3.view (Rect.unit (s := S1x512x1024) ![0, 128 * j.val, 256 * h.val] S1x128x256.size (inb_v j h)).toLoadRect (harg3.unread x1)
  lr j := View.readAt (Elt F) arg4.view (Rect.unit (s := S1x512x128) ![0, 128 * j.val, 0] S1x128x128.size (inb_lr j)).toLoadRect (harg4.unread x2)
  w := View.readAt (Elt F) arg8.view (Rect.unit (s := S128x512) ![0, 0] S128x512.size inb_S128x512_S128x512_0_0).toLoadRect (harg8.unread x6)
  b := View.readAt (Elt F) arg9.view (Rect.unit (s := S1x512) ![0, 0] S1x512.size inb_S1x512_S1x512_0_0).toLoadRect (harg9.unread x7)
  s := s
end

/-! ## The stores of a point, forward -/

theorem inb_s (h : Fin 4) : ∀ k, ![h.val, 0, 0] k + S1x128x256.size k ≤ S4x128x256.size k := by
  decide +revert
theorem inb_S0 : ∀ k, ![0, 0, 0, 0] k + S1x4x128x256.size k ≤ S2x4x128x256.size k := by
  decide

/-- The part of the scratch that holds the state of head `h`, forward. -/
abbrev headRect (h : Fin 4) : Rect S4x128x256 := Rect.unit (s := S4x128x256) ![h.val, 0, 0] S1x128x256.size (inb_s h)
abbrev headLift (h : Fin 4) : Rect S1x4x128x256 := (headRect h).consLift ![1, 4, 128, 256] rfl (fun _ => rfl)
abbrev fwdRect : Rect S2x4x128x256 := Rect.unit (s := S2x4x128x256) ![0, 0, 0, 0] S1x4x128x256.size inb_S0

/-- The store of a head's output in a chunk, -/
def outPiece (T : Tiles F) (j h : Fin 4) : View.Piece (Elt F) S1x512x1024 .bf16 :=
  ⟨Rect.unit (s := S1x512x1024) ![0, 128 * j.val, 256 * h.val] S1x128x256.size (inb_v j h), outF T j.val h⟩

/-- all of them, newest first, -/
def outPieces (T : Tiles F) : List (View.Piece (Elt F) S1x512x1024 .bf16) :=
  [outPiece T 3 3, outPiece T 3 2, outPiece T 3 1, outPiece T 3 0, outPiece T 2 3, outPiece T 2 2, outPiece T 2 1, outPiece T 2 0,
   outPiece T 1 3, outPiece T 1 2, outPiece T 1 1, outPiece T 1 0, outPiece T 0 3, outPiece T 0 2, outPiece T 0 1, outPiece T 0 0]

/-- and the store of a head's state after the four chunks. -/
def scrPiece (T : Tiles F) (h : Fin 4) : View.Piece (Elt F) S2x4x128x256 .f32 :=
  ⟨fwdRect.within (headLift h) (fun _ => rfl),
    Rect.payAlong (Rect.numel_consLift (headRect h) ![1, 4, 128, 256] rfl (fun _ => rfl)) (shapeCast S1x128x256 (stF T h 4) shapeCasts_S128x256_S1x128x256)⟩

def scrPieces (T : Tiles F) : List (View.Piece (Elt F) S2x4x128x256 .f32) := [scrPiece T 3, scrPiece T 2, scrPiece T 1, scrPiece T 0]
end Chunk
end Cert.KernelIdeal.Gen
end
-- ==== Proof.Ideal.Pieces.lean ====
module

public import proofs.«01_k».proof.Proof.Ideal.Chunk
public import proofs.«01_k».proof.Proof.Ideal.RunFirst
public import proofs.«01_k».proof.Proof.Ideal.RunMiddle
public import proofs.«01_k».proof.Proof.Ideal.RunLast

/-! The stores of a point, forward, as the chunks' outputs and states. -/

@[expose] public section

set_option maxRecDepth 16384

noncomputable section

namespace Cert.KernelIdeal.Gen

open Idealize.ShloMosaic Idealize.ShloMosaic.Tactic Idealize.SL.Sem

variable {F : FTy → Type} [FloatOps F] [Named F]

/-! At the first point of a sequence. -/

section
variable (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S1x512x128 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x128 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x4x128x256 .f32) (harg12 : arg12.IsWhole) (arg13 : Memref sig .tc .vmem S1x4x128x256 .f32) (harg13 : arg13.IsWhole) (arg14 : Memref sig .tc .vmem S64x8192 .f32) (harg14 : arg14.IsWhole) (arg15 : Memref sig .tc .vmem S32x2048 .f32) (harg15 : arg15.IsWhole) (arg16 : Memref sig .tc .vmem S32x2048 .f32) (harg16 : arg16.IsWhole) (arg17 : Memref sig .tc .vmem S64x2048 .f32) (harg17 : arg17.IsWhole) (arg18 : Memref sig .tc .vmem S1x512x1024 .bf16) (harg18 : arg18.IsWhole) (arg19 : Memref sig .tc .vmem S1x512x1024 .bf16) (harg19 : arg19.IsWhole) (arg20 : Memref sig .tc .vmem S1x4x128x256 .f32) (harg20 : arg20.IsWhole) (arg21 : Memref sig .tc .vmem S1x4x128x256 .f32) (harg21 : arg21.IsWhole) (arg22 : Memref sig .tc .vmem S64x8192 .bf16) (harg22 : arg22.IsWhole) (arg23 : Memref sig .tc .vmem S32x2048 .bf16) (harg23 : arg23.IsWhole) (arg24 : Memref sig .tc .vmem S32x2048 .bf16) (harg24 : arg24.IsWhole) (arg25 : Memref sig .tc .vmem S64x2048 .bf16) (harg25 : arg25.IsWhole) (arg26 : Memref sig .tc .vmem S2x4x128x256 .f32) (harg26 : arg26.IsWhole) (hc0 : cond0_0 i) (hc1 : ¬cond0_1 i)
    (x0 : Vec F S1x512x1024 .bf16) (x1 : Vec F S1x512x1024 .bf16) (x2 : Vec F S1x512x128 .f32) (x3 : Vec F S1x512x1024 .bf16) (x4 : Vec F S1x512x1024 .bf16) (x5 : Vec F S1x512x128 .f32) (x6 : Vec F S128x512 .bf16) (x7 : Vec F S1x512 .f32) (x8 : Vec F S128x512 .bf16) (x9 : Vec F S1x512 .f32) (x10 : Vec F S1x4x128x256 .f32) (x11 : Vec F S1x4x128x256 .f32) (x12 : Vec F S64x8192 .f32) (x13 : Vec F S32x2048 .f32) (x14 : Vec F S32x2048 .f32) (x15 : Vec F S64x2048 .f32)

theorem out_pieces_A : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15).1
    = Chunk.outPieces (Chunk.loaded arg2 harg2 arg3 harg3 arg4 harg4 arg8 harg8 arg9 harg9 x0 x1 x2 x6 x7
      ![kernelRun0_A.sl.v24 c arg12 harg12 arg13 harg13 arg26 x10 x11, kernelRun0_A.sl.v28 c arg12 harg12 arg13 harg13 arg26 x10 x11, kernelRun0_A.sl.v32 c arg12 harg12 arg13 harg13 arg26 x10 x11, kernelRun0_A.sl.v36 c arg12 harg12 arg13 harg13 arg26 x10 x11]) := by sl_kernel_rfl

theorem scr_pieces_A : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15).2.2.2.2.2.2.2.2.1.drop 4
    = Chunk.scrPieces (Chunk.loaded arg2 harg2 arg3 harg3 arg4 harg4 arg8 harg8 arg9 harg9 x0 x1 x2 x6 x7
      ![kernelRun0_A.sl.v24 c arg12 harg12 arg13 harg13 arg26 x10 x11, kernelRun0_A.sl.v28 c arg12 harg12 arg13 harg13 arg26 x10 x11, kernelRun0_A.sl.v32 c arg12 harg12 arg13 harg13 arg26 x10 x11, kernelRun0_A.sl.v36 c arg12 harg12 arg13 harg13 arg26 x10 x11]) ++ (kernelRun0_A.sl.HS0_2 c arg12 harg12 arg13 harg13 x10 x11) := by sl_kernel_rfl

theorem scr_back_A : ((kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15).2.2.2.2.2.2.2.2.1.take 4).map (fun p => (p.1.off 0, p.1.stride 0, p.1.size 0))
    = [(1, 1, 1), (1, 1, 1), (1, 1, 1), (1, 1, 1)] := by sl_kernel_rfl

end

/-! Between the first and the last. -/

section
variable (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S1x512x128 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x128 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x4x128x256 .f32) (harg12 : arg12.IsWhole) (arg13 : Memref sig .tc .vmem S1x4x128x256 .f32) (harg13 : arg13.IsWhole) (arg14 : Memref sig .tc .vmem S64x8192 .f32) (harg14 : arg14.IsWhole) (arg15 : Memref sig .tc .vmem S32x2048 .f32) (harg15 : arg15.IsWhole) (arg16 : Memref sig .tc .vmem S32x2048 .f32) (harg16 : arg16.IsWhole) (arg17 : Memref sig .tc .vmem S64x2048 .f32) (harg17 : arg17.IsWhole) (arg18 : Memref sig .tc .vmem S1x512x1024 .bf16) (harg18 : arg18.IsWhole) (arg19 : Memref sig .tc .vmem S1x512x1024 .bf16) (harg19 : arg19.IsWhole) (arg20 : Memref sig .tc .vmem S1x4x128x256 .f32) (harg20 : arg20.IsWhole) (arg21 : Memref sig .tc .vmem S1x4x128x256 .f32) (harg21 : arg21.IsWhole) (arg22 : Memref sig .tc .vmem S64x8192 .bf16) (harg22 : arg22.IsWhole) (arg23 : Memref sig .tc .vmem S32x2048 .bf16) (harg23 : arg23.IsWhole) (arg24 : Memref sig .tc .vmem S32x2048 .bf16) (harg24 : arg24.IsWhole) (arg25 : Memref sig .tc .vmem S64x2048 .bf16) (harg25 : arg25.IsWhole) (arg26 : Memref sig .tc .vmem S2x4x128x256 .f32) (harg26 : arg26.IsWhole) (hc0 : ¬cond0_0 i) (hc1 : ¬cond0_1 i)
    (x0 : Vec F S1x512x1024 .bf16) (x1 : Vec F S1x512x1024 .bf16) (x2 : Vec F S1x512x128 .f32) (x3 : Vec F S1x512x1024 .bf16) (x4 : Vec F S1x512x1024 .bf16) (x5 : Vec F S1x512x128 .f32) (x6 : Vec F S128x512 .bf16) (x7 : Vec F S1x512 .f32) (x8 : Vec F S128x512 .bf16) (x9 : Vec F S1x512 .f32) (x10 : Vec F S1x4x128x256 .f32) (x11 : Vec F S1x4x128x256 .f32) (x12 : Vec F S64x8192 .f32) (x13 : Vec F S32x2048 .f32) (x14 : Vec F S32x2048 .f32) (x15 : Vec F S64x2048 .f32) (xs0 : Vec F S2x4x128x256 .f32)

theorem out_pieces_B : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0).1
    = Chunk.outPieces (Chunk.loaded arg2 harg2 arg3 harg3 arg4 harg4 arg8 harg8 arg9 harg9 x0 x1 x2 x6 x7
      ![kernelRun0_B.sl.v24 c arg26 harg26 xs0, kernelRun0_B.sl.v28 c arg26 harg26 xs0, kernelRun0_B.sl.v32 c arg26 harg26 xs0, kernelRun0_B.sl.v36 c arg26 harg26 xs0]) := by sl_kernel_rfl

theorem scr_pieces_B : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0).2.2.2.2.2.2.2.2.1.drop 4
    = Chunk.scrPieces (Chunk.loaded arg2 harg2 arg3 harg3 arg4 harg4 arg8 harg8 arg9 harg9 x0 x1 x2 x6 x7
      ![kernelRun0_B.sl.v24 c arg26 harg26 xs0, kernelRun0_B.sl.v28 c arg26 harg26 xs0, kernelRun0_B.sl.v32 c arg26 harg26 xs0, kernelRun0_B.sl.v36 c arg26 harg26 xs0]) ++ [] := by sl_kernel_rfl

theorem scr_back_B : ((kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0).2.2.2.2.2.2.2.2.1.take 4).map (fun p => (p.1.off 0, p.1.stride 0, p.1.size 0))
    = [(1, 1, 1), (1, 1, 1), (1, 1, 1), (1, 1, 1)] := by sl_kernel_rfl

end

/-! At the last. -/

section
variable (c : Dev nD) (i : grid0.Coords) (arg2 : Memref sig .tc .vmem S1x512x1024 .bf16) (harg2 : arg2.IsWhole) (arg3 : Memref sig .tc .vmem S1x512x1024 .bf16) (harg3 : arg3.IsWhole) (arg4 : Memref sig .tc .vmem S1x512x128 .f32) (harg4 : arg4.IsWhole) (arg5 : Memref sig .tc .vmem S1x512x1024 .bf16) (harg5 : arg5.IsWhole) (arg6 : Memref sig .tc .vmem S1x512x1024 .bf16) (harg6 : arg6.IsWhole) (arg7 : Memref sig .tc .vmem S1x512x128 .f32) (harg7 : arg7.IsWhole) (arg8 : Memref sig .tc .vmem S128x512 .bf16) (harg8 : arg8.IsWhole) (arg9 : Memref sig .tc .vmem S1x512 .f32) (harg9 : arg9.IsWhole) (arg10 : Memref sig .tc .vmem S128x512 .bf16) (harg10 : arg10.IsWhole) (arg11 : Memref sig .tc .vmem S1x512 .f32) (harg11 : arg11.IsWhole) (arg12 : Memref sig .tc .vmem S1x4x128x256 .f32) (harg12 : arg12.IsWhole) (arg13 : Memref sig .tc .vmem S1x4x128x256 .f32) (harg13 : arg13.IsWhole) (arg14 : Memref sig .tc .vmem S64x8192 .f32) (harg14 : arg14.IsWhole) (arg15 : Memref sig .tc .vmem S32x2048 .f32) (harg15 : arg15.IsWhole) (arg16 : Memref sig .tc .vmem S32x2048 .f32) (harg16 : arg16.IsWhole) (arg17 : Memref sig .tc .vmem S64x2048 .f32) (harg17 : arg17.IsWhole) (arg18 : Memref sig .tc .vmem S1x512x1024 .bf16) (harg18 : arg18.IsWhole) (arg19 : Memref sig .tc .vmem S1x512x1024 .bf16) (harg19 : arg19.IsWhole) (arg20 : Memref sig .tc .vmem S1x4x128x256 .f32) (harg20 : arg20.IsWhole) (arg21 : Memref sig .tc .vmem S1x4x128x256 .f32) (harg21 : arg21.IsWhole) (arg22 : Memref sig .tc .vmem S64x8192 .bf16) (harg22 : arg22.IsWhole) (arg23 : Memref sig .tc .vmem S32x2048 .bf16) (harg23 : arg23.IsWhole) (arg24 : Memref sig .tc .vmem S32x2048 .bf16) (harg24 : arg24.IsWhole) (arg25 : Memref sig .tc .vmem S64x2048 .bf16) (harg25 : arg25.IsWhole) (arg26 : Memref sig .tc .vmem S2x4x128x256 .f32) (harg26 : arg26.IsWhole) (hc0 : ¬cond0_0 i) (hc1 : cond0_1 i)
    (x0 : Vec F S1x512x1024 .bf16) (x1 : Vec F S1x512x1024 .bf16) (x2 : Vec F S1x512x128 .f32) (x3 : Vec F S1x512x1024 .bf16) (x4 : Vec F S1x512x1024 .bf16) (x5 : Vec F S1x512x128 .f32) (x6 : Vec F S128x512 .bf16) (x7 : Vec F S1x512 .f32) (x8 : Vec F S128x512 .bf16) (x9 : Vec F S1x512 .f32) (x10 : Vec F S1x4x128x256 .f32) (x11 : Vec F S1x4x128x256 .f32) (x12 : Vec F S64x8192 .f32) (x13 : Vec F S32x2048 .f32) (x14 : Vec F S32x2048 .f32) (x15 : Vec F S64x2048 .f32) (xs0 : Vec F S2x4x128x256 .f32)

theorem out_pieces_C : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0).1
    = Chunk.outPieces (Chunk.loaded arg2 harg2 arg3 harg3 arg4 harg4 arg8 harg8 arg9 harg9 x0 x1 x2 x6 x7
      ![kernelRun0_C.sl.v24 c arg26 harg26 xs0, kernelRun0_C.sl.v28 c arg26 harg26 xs0, kernelRun0_C.sl.v32 c arg26 harg26 xs0, kernelRun0_C.sl.v36 c arg26 harg26 xs0]) := by sl_kernel_rfl

theorem scr_pieces_C : (kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0).2.2.2.2.2.2.2.2.1.drop 4
    = Chunk.scrPieces (Chunk.loaded arg2 harg2 arg3 harg3 arg4 harg4 arg8 harg8 arg9 harg9 x0 x1 x2 x6 x7
      ![kernelRun0_C.sl.v24 c arg26 harg26 xs0, kernelRun0_C.sl.v28 c arg26 harg26 xs0, kernelRun0_C.sl.v32 c arg26 harg26 xs0, kernelRun0_C.sl.v36 c arg26 harg26 xs0]) ++ [] := by sl_kernel_rfl

theorem scr_back_C : ((kernelRun0_C c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 hc0 hc1 x0 x1 x2 x3 x4 x5 x6 x7 x8 x9 x10 x11 x12 x13 x14 x15 xs0).2.2.2.2.2.2.2.2.1.take 4).map (fun p => (p.1.off 0, p.1.stride 0, p.1.size 0))
    = [(1, 1, 1), (1, 1, 1), (1, 1, 1), (1, 1, 1)] := by sl_kernel_rfl

end

end Cert.KernelIdeal.Gen
end
end
-- ==== Proof.Ideal.ChunkRead.lean ====
module

public import proofs.«01_k».proof.Proof.Ideal.Chunk
public import Idealize.ShloMosaic.Lib.WholeRead
public import Idealize.ShloMosaic.Lib.Writes

/-! The tiles of a point entry by entry, and what the stores of a point leave, forward. -/

@[expose] public section

set_option maxRecDepth 16384

noncomputable section

namespace Cert.KernelIdeal.Gen

open Idealize.ShloMosaic Idealize.SL.Sem

variable {F : FTy → Type} [FloatOps F] [Named F]

namespace Chunk

section
variable (arg2 : Memref sig .tc .vmem S1x512x1024 .bf16) (harg2 : arg2.IsWhole) (arg3 : Memref sig .tc .vmem S1x512x1024 .bf16)
  (harg3 : arg3.IsWhole) (arg4 : Memref sig .tc .vmem S1x512x128 .f32) (harg4 : arg4.IsWhole) (arg8 : Memref sig .tc .vmem S128x512 .bf16) (harg8 : arg8.IsWhole)
  (arg9 : Memref sig .tc .vmem S1x512 .f32) (harg9 : arg9.IsWhole)
    (x0 : Vec F S1x512x1024 .bf16) (x1 : Vec F S1x512x1024 .bf16) (x2 : Vec F S1x512x128 .f32) (x6 : Vec F S128x512 .bf16) (x7 : Vec F S1x512 .f32)
    (s : Fin 4 → FVec F S128x256 .f32)

theorem loaded_q (j h : Fin 4) (r d : Fin 128) : (loaded arg2 harg2 arg3 harg3 arg4 harg4 arg8 harg8 arg9 harg9 x0 x1 x2 x6 x7 s).q j h (ix3 0 r d)
    = x0 (ix3 0 ⟨128 * j.val + r.val, by omega⟩ ⟨128 * h.val + d.val, by omega⟩) := by
  refine (harg2.readAt_unread x0 _ _).trans (congrArg x0 ?_)
  funext a
  fin_cases a <;> apply Fin.ext <;> simp [LoadRect.idx] <;> rfl

theorem loaded_k (j h : Fin 4) (r d : Fin 128) : (loaded arg2 harg2 arg3 harg3 arg4 harg4 arg8 harg8 arg9 harg9 x0 x1 x2 x6 x7 s).k j h (ix3 0 r d)
    = x0 (ix3 0 ⟨128 * j.val + r.val, by omega⟩ ⟨512 + 128 * h.val + d.val, by omega⟩) := by
  refine (harg2.readAt_unread x0 _ _).trans (congrArg x0 ?_)
  funext a
  fin_cases a <;> apply Fin.ext <;> simp [LoadRect.idx] <;> rfl

theorem loaded_v (j h : Fin 4) (r : Fin 128) (e : Fin 256) : (loaded arg2 harg2 arg3 harg3 arg4 harg4 arg8 harg8 arg9 harg9 x0 x1 x2 x6 x7 s).v j h (ix3 0 r e)
    = x1 (ix3 0 ⟨128 * j.val + r.val, by omega⟩ ⟨256 * h.val + e.val, by omega⟩) := by
  refine (harg3.readAt_unread x1 _ _).trans (congrArg x1 ?_)
  funext a
  fin_cases a <;> apply Fin.ext <;> simp [LoadRect.idx] <;> rfl

theorem loaded_lr (j : Fin 4) (r d : Fin 128) : (loaded arg2 harg2 arg3 harg3 arg4 harg4 arg8 harg8 arg9 harg9 x0 x1 x2 x6 x7 s).lr j (ix3 0 r d)
    = x2 (ix3 0 ⟨128 * j.val + r.val, by omega⟩ d) := by
  refine (harg4.readAt_unread x2 _ _).trans (congrArg x2 ?_)
  funext a
  fin_cases a <;> apply Fin.ext <;> simp [LoadRect.idx] <;> rfl

theorem loaded_w (x : Fin 128) (c : Fin 512) : (loaded arg2 harg2 arg3 harg3 arg4 harg4 arg8 harg8 arg9 harg9 x0 x1 x2 x6 x7 s).w (ix2 x c) = x6 (ix2 x c) := by
  refine (harg8.readAt_unread x6 _ _).trans (congrArg x6 ?_)
  funext a
  fin_cases a <;> apply Fin.ext <;> simp [LoadRect.idx] <;> rfl

theorem loaded_b (c : Fin 512) : (loaded arg2 harg2 arg3 harg3 arg4 harg4 arg8 harg8 arg9 harg9 x0 x1 x2 x6 x7 s).b (ix2 0 c) = x7 (ix2 0 c) := by
  refine (harg9.readAt_unread x7 _ _).trans (congrArg x7 ?_)
  funext a
  fin_cases a <;> apply Fin.ext <;> simp [LoadRect.idx] <;> rfl
end

section
variable {sig' : RefSig} {κ' : Kind} {sp' : Space}

theorem out_read (w : View sig' κ' sp' S1x512x1024 .bf16) (f : w.ty.Contents (Elt F)) (T : Tiles F) (j h : Fin 4) (r : Fin 128) (e : Fin 256) :
    w.read (Elt F) (w.writes (Elt F) f (outPieces T)) (ix3 0 ⟨128 * j.val + r.val, by omega⟩ ⟨256 * h.val + e.val, by omega⟩)
      = outF T j.val h (ix3 0 r e) := by
  have hp : ∀ p ∈ outPieces T, ∃ j h, p = outPiece T j h := by
    intro p hp
    simp only [outPieces, List.mem_cons, List.not_mem_nil, or_false] at hp
    rcases hp with h | h | h | h | h | h | h | h | h | h | h | h | h | h | h | h <;> exact ⟨_, _, h⟩
  have hx : ∀ (j h : Fin 4) (r : Fin 128) (e : Fin 256), (outPiece T j h).1.emb (ix3 0 r e : S1x128x256.Idx)
      = ix3 0 ⟨128 * j.val + r.val, by omega⟩ ⟨256 * h.val + e.val, by omega⟩ := by
    intro j h r e
    funext a
    fin_cases a
    · rfl
    · exact Fin.ext (show 128 * j.val + 1 * r.val = 128 * j.val + r.val by omega)
    · exact Fin.ext (show 256 * h.val + 1 * e.val = 256 * h.val + e.val by omega)
  have hG := View.read_writes_apply_of_pieces w f
    (fun y => outF T (Fin.ofNat 4 ((y 1).val / 128)).val (Fin.ofNat 4 ((y 2).val / 256)) (ix3 0 (Fin.ofNat 128 (y 1).val) (Fin.ofNat 256 (y 2).val)))
  have hv : ∀ (j h : Fin 4) (r : Fin 128) (e : Fin 256),
      outF T (Fin.ofNat 4 ((128 * j.val + r.val) / 128)).val (Fin.ofNat 4 ((256 * h.val + e.val) / 256)) (ix3 0 (Fin.ofNat 128 (128 * j.val + r.val)) (Fin.ofNat 256 (256 * h.val + e.val)))
        = outF T j.val h (ix3 0 r e) := by
    intro j h r e
    rw [show Fin.ofNat 4 ((128 * j.val + r.val) / 128) = j from Fin.ext (by simp [Fin.ofNat]; omega),
      show Fin.ofNat 4 ((256 * h.val + e.val) / 256) = h from Fin.ext (by simp [Fin.ofNat]; omega),
      show Fin.ofNat 128 (128 * j.val + r.val) = r from Fin.ext (by simp [Fin.ofNat]),
      show Fin.ofNat 256 (256 * h.val + e.val) = e from Fin.ext (by simp [Fin.ofNat])]
  refine (hG (outPieces T) ?_ (ix3 0 ⟨128 * j.val + r.val, by omega⟩ ⟨256 * h.val + e.val, by omega⟩)
    ⟨outPiece T j h, by fin_cases j <;> fin_cases h <;> simp [outPieces], ?_⟩).trans (hv j h r e)
  · intro p hm x
    obtain ⟨j, h, rfl⟩ := hp p hm
    obtain ⟨r, e, rfl⟩ : ∃ (r : Fin 128) (e : Fin 256), x = (ix3 0 r e : S1x128x256.Idx) := ⟨x 1, x 2, by
      funext a
      fin_cases a
      · exact Subsingleton.elim (α := Fin 1) _ _
      · rfl
      · rfl⟩
    rw [hx]
    exact (hv j h r e).symm
  · rw [← hx, ← Rect.map_emb_univ]
    exact Finset.mem_map_of_mem _ (Finset.mem_univ _)

theorem skip (w : View sig' κ' sp' S2x4x128x256 .f32) (f : w.ty.Contents (Elt F)) (y : S2x4x128x256.Idx) (M : List (View.Piece (Elt F) S2x4x128x256 .f32)) :
    ∀ K : List (View.Piece (Elt F) S2x4x128x256 .f32), (∀ p ∈ K, y ∉ p.1.set) → w.read (Elt F) (w.writes (Elt F) f (K ++ M)) y = w.read (Elt F) (w.writes (Elt F) f M) y
  | [], _ => rfl
  | p :: K, h => by
    rw [List.cons_append, View.read_writes_cons_miss _ _ _ _ _ (h p List.mem_cons_self)]
    exact skip w f y M K fun q hq => h q (List.mem_cons_of_mem _ hq)

theorem scr_miss (w : View sig' κ' sp' S2x4x128x256 .f32) (f : w.ty.Contents (Elt F)) (T : Tiles F) (M) (g h : Fin 4) (hne : g ≠ h) (d : Fin 128) (e : Fin 256) :
    w.read (Elt F) (w.writes (Elt F) f (scrPiece T g :: M)) (ix4 0 h d e) = w.read (Elt F) (w.writes (Elt F) f M) (ix4 0 h d e) := by
  refine View.read_writes_cons_miss_of_axis w f _ _ _ 1 g.val 1 ?_ ?_ ?_ ?_
  · show 0 + g.val = g.val
    omega
  · rfl
  · rfl
  · show h.val < g.val ∨ g.val + 1 ≤ h.val
    have := Fin.val_ne_of_ne hne
    omega

theorem scr_hit (w : View sig' κ' sp' S2x4x128x256 .f32) (f : w.ty.Contents (Elt F)) (T : Tiles F) (M) (h : Fin 4) (d : Fin 128) (e : Fin 256) :
    w.read (Elt F) (w.writes (Elt F) f (scrPiece T h :: M)) (ix4 0 h d e) = stF T h 4 (ix2 d e) := by
  refine (View.read_writes_cons_hit_of_coords w f _ _ _ (ix4 0 0 d e : (⟨4, ![1, 1, 128, 256]⟩ : Shape).Idx) _ ?_).trans ?_
  · intro a
    fin_cases a
    · rfl
    · show h.val = 0 + h.val + 1 * 0
      omega
    · show d.val = 0 + 0 + 1 * d.val
      omega
    · show e.val = 0 + 0 + 1 * e.val
      omega
  · refine (Rect.payAlong_consLift (headRect h) ![1, 4, 128, 256] rfl (fun _ => rfl) _ _ _ (ix3 0 d e : S1x128x256.Idx) ?_).trans ?_
    · intro i
      fin_cases i <;> rfl
    · pointwise

/-- The scratch after a point's stores: the stores of the other direction come last, and miss the forward states. -/
theorem scr_read (w : View sig' κ' sp' S2x4x128x256 .f32) (f : w.ty.Contents (Elt F)) (T : Tiles F) (L M : List (View.Piece (Elt F) S2x4x128x256 .f32))
    (hd : L.drop 4 = scrPieces T ++ M) (hb : (L.take 4).map (fun p => (p.1.off 0, p.1.stride 0, p.1.size 0)) = [(1, 1, 1), (1, 1, 1), (1, 1, 1), (1, 1, 1)])
    (h : Fin 4) (d : Fin 128) (e : Fin 256) :
    w.read (Elt F) (w.writes (Elt F) f L) (ix4 0 h d e) = stF T h 4 (ix2 d e) := by
  rw [← List.take_append_drop 4 L, skip, hd]
  · show w.read (Elt F) (w.writes (Elt F) f (scrPiece T 3 :: scrPiece T 2 :: scrPiece T 1 :: scrPiece T 0 :: M)) _ = _
    match h with
    | 3 => rw [scr_hit]
    | 2 => rw [scr_miss _ _ _ _ 3 2 (by decide), scr_hit]
    | 1 => rw [scr_miss _ _ _ _ 3 1 (by decide), scr_miss _ _ _ _ 2 1 (by decide), scr_hit]
    | 0 => rw [scr_miss _ _ _ _ 3 0 (by decide), scr_miss _ _ _ _ 2 0 (by decide), scr_miss _ _ _ _ 1 0 (by decide), scr_hit]
  · intro p hp
    have hm := List.mem_map_of_mem (f := fun p : View.Piece (Elt F) S2x4x128x256 .f32 => (p.1.off 0, p.1.stride 0, p.1.size 0)) hp
    rw [hb] at hm
    have hm' : (p.1.off 0, p.1.stride 0, p.1.size 0) = (1, 1, 1) := by simpa using hm
    simp only [Prod.mk.injEq] at hm'
    exact p.1.not_mem_set_of_axis _ 0 1 1 hm'.1 hm'.2.1 hm'.2.2 (Or.inl Nat.one_pos)

end

/-- A head's state loaded off a scratch that holds `S`. -/
theorem head_load (arg26 : Memref sig .tc .vmem S2x4x128x256 .f32) (harg26 : arg26.IsWhole) (S : Vec F S2x4x128x256 .f32) (h : Fin 4)
    (hR : (headRect h).toLoadRect.shape.numel = (fwdRect.withinL (headLift h).toLoadRect (fun _ => rfl)).shape.numel) (d : Fin 128) (e : Fin 256) :
    shapeCast S128x256 (LoadRect.valAlong hR (View.readAt (Elt F) arg26.view (fwdRect.withinL (headLift h).toLoadRect (fun _ => rfl)) (harg26.unread S)) : Vec F S1x128x256 .f32)
      shapeCasts_S1x128x256_S128x256 (ix2 d e) = S (ix4 0 h d e) := by
  have hx : Shape.reshapeEquiv hR (ix3 0 d e : S1x128x256.Idx) = Fin.cons ⟨0, Nat.one_pos⟩ (ix3 0 d e : S1x128x256.Idx) :=
    Shape.reshapeEquiv_cons_one (d := S1x128x256.size) _ _
  have e1 : ∀ z : Vec F S1x128x256 .f32, shapeCast S128x256 z shapeCasts_S1x128x256_S128x256 (ix2 d e) = z (ix3 0 d e) := by
    intro z
    pointwise
  rw [e1]
  show View.readAt (Elt F) arg26.view _ (harg26.unread S) (Shape.reshapeEquiv hR (ix3 0 d e : S1x128x256.Idx)) = _
  rw [hx]
  refine (harg26.readAt_unread S _ _).trans (congrArg S ?_)
  funext a
  fin_cases a
  · rfl
  · exact Fin.ext (show 0 + h.val + 1 * 0 = h.val by omega)
  · exact Fin.ext (show 0 + 0 + 1 * d.val = d.val by omega)
  · exact Fin.ext (show 0 + 0 + 1 * e.val = e.val by omega)

end Chunk
end Cert.KernelIdeal.Gen
end
-- ==== Proof.Ideal.Point.lean ====
module

public import proofs.«01_k».proof.Proof.Ideal.Frame
public import proofs.«01_k».proof.Proof.Ideal.Pieces
public import proofs.«01_k».proof.Proof.Ideal.ChunkRead

/-! What a point leaves in the forward output's block and in the forward half of the scratch. -/

@[expose] public section

set_option maxRecDepth 16384

noncomputable section

namespace Cert.KernelIdeal.Gen

open Idealize.ShloMosaic Idealize.ShloMosaic.TcCoe Idealize.SL.Sem Idealize.ShloMosaic.Tactic

variable {F : FTy → Type} [FloatOps F] [Named F]

/-- A head's initial state, loaded off the scratch right after both halves of it were set. -/
theorem head_first (arg26 : Memref sig .tc .vmem S2x4x128x256 .f32) (i1 : ∀ a, ![1, 0, 0, 0] a + S1x4x128x256.size a ≤ S2x4x128x256.size a)
    (i0 : ∀ a, ![0, 0, 0, 0] a + S1x4x128x256.size a ≤ S2x4x128x256.size a) (X Y : Vec F S1x4x128x256 .f32) (h : Fin 4)
    (hR : (Chunk.headRect h).toLoadRect.shape.numel = (Chunk.fwdRect.withinL (Chunk.headLift h).toLoadRect (fun _ => rfl)).shape.numel) (d : Fin 128) (e : Fin 256) :
    shapeCast S128x256 (LoadRect.valAlong hR (arg26.view.readCov (Val := Elt F)
        [⟨Rect.unit (s := S2x4x128x256) ![1, 0, 0, 0] S1x4x128x256.size i1, X⟩, ⟨Rect.unit (s := S2x4x128x256) ![0, 0, 0, 0] S1x4x128x256.size i0, Y⟩]
        (Chunk.fwdRect.withinL (Chunk.headLift h).toLoadRect (fun _ => rfl))) : Vec F S1x128x256 .f32)
      shapeCasts_S1x128x256_S128x256 (ix2 d e) = Y (ix4 0 h d e) := by
  have hx : Shape.reshapeEquiv hR (ix3 0 d e : S1x128x256.Idx) = Fin.cons ⟨0, Nat.one_pos⟩ (ix3 0 d e : S1x128x256.Idx) :=
    Shape.reshapeEquiv_cons_one (d := S1x128x256.size) _ _
  have e1 : ∀ z : Vec F S1x128x256 .f32, shapeCast S128x256 z shapeCasts_S1x128x256_S128x256 (ix2 d e) = z (ix3 0 d e) := by
    intro z
    pointwise
  rw [e1]
  show arg26.view.readCov (Val := Elt F) _ _ (Shape.reshapeEquiv hR (ix3 0 d e : S1x128x256.Idx)) = _
  rw [hx]
  have hy : (Chunk.fwdRect.withinL (Chunk.headLift h).toLoadRect (fun _ => rfl)).idx (Fin.cons ⟨0, Nat.one_pos⟩ (ix3 0 d e : S1x128x256.Idx))
      = (ix4 0 h d e : S2x4x128x256.Idx) := by
    funext a
    fin_cases a
    · rfl
    · exact Fin.ext (show 0 + h.val + 1 * 0 = h.val by omega)
    · exact Fin.ext (show 0 + 0 + 1 * d.val = d.val by omega)
    · exact Fin.ext (show 0 + 0 + 1 * e.val = e.val by omega)
  show arg26.view.read (Elt F) (arg26.view.writes (Elt F) arg26.view.junk _) ((Chunk.fwdRect.withinL (Chunk.headLift h).toLoadRect (fun _ => rfl)).idx _) = _
  rw [hy, View.read_writes_cons_miss_of_axis _ _ _ _ _ 0 1 1 rfl rfl rfl (Or.inl Nat.one_pos)]
  refine View.read_writes_cons_hit_of_coords _ _ (Rect.unit (s := S2x4x128x256) ![0, 0, 0, 0] S1x4x128x256.size i0) Y [] (ix4 0 h d e : S1x4x128x256.Idx) (ix4 0 h d e : S2x4x128x256.Idx) ?_
  intro a
  fin_cases a
  · rfl
  · exact (show h.val = 0 + 1 * h.val by omega)
  · exact (show d.val = 0 + 1 * d.val by omega)
  · exact (show e.val = 0 + 1 * e.val by omega)

/-- The initial states' tile loaded whole. -/
theorem first_load (arg12 : Memref sig .tc .vmem S1x4x128x256 .f32) (harg12 : arg12.IsWhole) (x10 : Vec F S1x4x128x256 .f32)
    (i0 : ∀ a, ![0, 0, 0, 0] a + S1x4x128x256.size a ≤ S1x4x128x256.size a) (h : Fin 4) (d : Fin 128) (e : Fin 256) :
    View.readAt (Elt F) arg12.view (Rect.unit (s := S1x4x128x256) ![0, 0, 0, 0] S1x4x128x256.size i0).toLoadRect (harg12.unread x10) (ix4 0 h d e)
      = x10 (ix4 0 h d e) := by
  refine (harg12.readAt_unread x10 _ _).trans (congrArg x10 ?_)
  funext a
  fin_cases a
  · rfl
  · exact Fin.ext (show 0 + 1 * h.val = h.val by omega)
  · exact Fin.ext (show 0 + 1 * d.val = d.val by omega)
  · exact Fin.ext (show 0 + 1 * e.val = e.val by omega)

variable (m : (ℓ : Loc nD τ sig) → Buf (Elt F) ℓ)

/-- The tiles of point `t`, over heads' states `s`. -/
def tilesAt (c : Dev nD) (t : Fin cfg0.N) (s : Fin 4 → FVec F S128x256 .f32) : Chunk.Tiles F :=
  Chunk.loaded (ms0_0 t) (hs0_0 t) (ms0_1 t) (hs0_1 t) (ms0_2 t) (hs0_2 t) (ms0_6 t) (hs0_6 t) (ms0_7 t) (hs0_7 t)
    (iblk m c 0 t) (iblk m c 1 t) (iblk m c 2 t) (iblk m c 6 t) (iblk m c 7 t) s

/-- The point's stores, forward, over a scratch that holds `S`. -/
structure Leaves (c : Dev nD) (t : Fin cfg0.N) (S : Vec F S2x4x128x256 .f32) (s : Fin 4 → FVec F S128x256 .f32) : Prop where
  start : ∀ h (d : Fin 128) (e : Fin 256), s h (ix2 d e) = if t.val % 16 = 0 then (iblk m c 10 t : Vec F S1x4x128x256 .f32) (ix4 0 h d e) else S (ix4 0 h d e)
  output : ∀ (j h : Fin 4) (r : Fin 128) (e : Fin 256), left16 (stores m c t S) (ix3 0 ⟨128 * j.val + r.val, by omega⟩ ⟨256 * h.val + e.val, by omega⟩)
    = Chunk.outF (tilesAt m c t s) j.val h (ix3 0 r e)
  state : ∀ (h : Fin 4) (d : Fin 128) (e : Fin 256), leftScr (stores m c t S) (ix4 0 h d e) = Chunk.stF (tilesAt m c t s) h 4 (ix2 d e)

/-- The four heads' states as the first point of a row loads them, -/
def headsA (c : Dev nD) (t : Fin cfg0.N) : Fin 4 → FVec F S128x256 .f32 :=
  ![kernelRun0_A.sl.v24 c (ms0_10 t) (hs0_10 t) (ms0_11 t) (hs0_11 t) scM0_0 (iblk m c 10 t) (iblk m c 11 t),
    kernelRun0_A.sl.v28 c (ms0_10 t) (hs0_10 t) (ms0_11 t) (hs0_11 t) scM0_0 (iblk m c 10 t) (iblk m c 11 t),
    kernelRun0_A.sl.v32 c (ms0_10 t) (hs0_10 t) (ms0_11 t) (hs0_11 t) scM0_0 (iblk m c 10 t) (iblk m c 11 t),
    kernelRun0_A.sl.v36 c (ms0_10 t) (hs0_10 t) (ms0_11 t) (hs0_11 t) scM0_0 (iblk m c 10 t) (iblk m c 11 t)]

/-- and as the points after it do. -/
def headsB (c : Dev nD) (S : Vec F S2x4x128x256 .f32) : Fin 4 → FVec F S128x256 .f32 :=
  ![kernelRun0_B.sl.v24 c scM0_0 (Memref.isWhole_whole _) S, kernelRun0_B.sl.v28 c scM0_0 (Memref.isWhole_whole _) S,
    kernelRun0_B.sl.v32 c scM0_0 (Memref.isWhole_whole _) S, kernelRun0_B.sl.v36 c scM0_0 (Memref.isWhole_whole _) S]

def headsC (c : Dev nD) (S : Vec F S2x4x128x256 .f32) : Fin 4 → FVec F S128x256 .f32 :=
  ![kernelRun0_C.sl.v24 c scM0_0 (Memref.isWhole_whole _) S, kernelRun0_C.sl.v28 c scM0_0 (Memref.isWhole_whole _) S,
    kernelRun0_C.sl.v32 c scM0_0 (Memref.isWhole_whole _) S, kernelRun0_C.sl.v36 c scM0_0 (Memref.isWhole_whole _) S]

theorem head_numel (h : Fin 4) : (Chunk.headRect h).toLoadRect.shape.numel = (Chunk.fwdRect.withinL (Chunk.headLift h).toLoadRect (fun _ => rfl)).shape.numel := by
  fin_cases h <;> rfl
theorem half_one : ∀ a, ![1, 0, 0, 0] a + S1x4x128x256.size a ≤ S2x4x128x256.size a := by decide
theorem half_zero : ∀ a, ![0, 0, 0, 0] a + S1x4x128x256.size a ≤ S2x4x128x256.size a := by decide

theorem headsA_0 (c : Dev nD) (t : Fin cfg0.N) (d : Fin 128) (e : Fin 256) :
    headsA m c t 0 (ix2 d e) = kernelRun0_A.sl.v2116 c (ms0_10 t) (hs0_10 t) (iblk m c 10 t) (ix4 0 0 d e) := by
  have hk : headsA m c t 0
          = shapeCast S128x256 (LoadRect.valAlong (head_numel 0) (scM0_0.view.readCov (Val := Elt F)
            [⟨Rect.unit (s := S2x4x128x256) ![1, 0, 0, 0] S1x4x128x256.size half_one, kernelRun0_A.sl.v2121 c (ms0_11 t) (hs0_11 t) (iblk m c 11 t)⟩,
              ⟨Rect.unit (s := S2x4x128x256) ![0, 0, 0, 0] S1x4x128x256.size half_zero, kernelRun0_A.sl.v2116 c (ms0_10 t) (hs0_10 t) (iblk m c 10 t)⟩]
            (Chunk.fwdRect.withinL (Chunk.headLift 0).toLoadRect (fun _ => rfl))) : Vec F S1x128x256 .f32) shapeCasts_S1x128x256_S128x256 := by sl_kernel_rfl
  rw [hk, head_first]

theorem headsA_1 (c : Dev nD) (t : Fin cfg0.N) (d : Fin 128) (e : Fin 256) :
    headsA m c t 1 (ix2 d e) = kernelRun0_A.sl.v2116 c (ms0_10 t) (hs0_10 t) (iblk m c 10 t) (ix4 0 1 d e) := by
  have hk : headsA m c t 1
          = shapeCast S128x256 (LoadRect.valAlong (head_numel 1) (scM0_0.view.readCov (Val := Elt F)
            [⟨Rect.unit (s := S2x4x128x256) ![1, 0, 0, 0] S1x4x128x256.size half_one, kernelRun0_A.sl.v2121 c (ms0_11 t) (hs0_11 t) (iblk m c 11 t)⟩,
              ⟨Rect.unit (s := S2x4x128x256) ![0, 0, 0, 0] S1x4x128x256.size half_zero, kernelRun0_A.sl.v2116 c (ms0_10 t) (hs0_10 t) (iblk m c 10 t)⟩]
            (Chunk.fwdRect.withinL (Chunk.headLift 1).toLoadRect (fun _ => rfl))) : Vec F S1x128x256 .f32) shapeCasts_S1x128x256_S128x256 := by sl_kernel_rfl
  rw [hk, head_first]

theorem headsA_2 (c : Dev nD) (t : Fin cfg0.N) (d : Fin 128) (e : Fin 256) :
    headsA m c t 2 (ix2 d e) = kernelRun0_A.sl.v2116 c (ms0_10 t) (hs0_10 t) (iblk m c 10 t) (ix4 0 2 d e) := by
  have hk : headsA m c t 2
          = shapeCast S128x256 (LoadRect.valAlong (head_numel 2) (scM0_0.view.readCov (Val := Elt F)
            [⟨Rect.unit (s := S2x4x128x256) ![1, 0, 0, 0] S1x4x128x256.size half_one, kernelRun0_A.sl.v2121 c (ms0_11 t) (hs0_11 t) (iblk m c 11 t)⟩,
              ⟨Rect.unit (s := S2x4x128x256) ![0, 0, 0, 0] S1x4x128x256.size half_zero, kernelRun0_A.sl.v2116 c (ms0_10 t) (hs0_10 t) (iblk m c 10 t)⟩]
            (Chunk.fwdRect.withinL (Chunk.headLift 2).toLoadRect (fun _ => rfl))) : Vec F S1x128x256 .f32) shapeCasts_S1x128x256_S128x256 := by sl_kernel_rfl
  rw [hk, head_first]

theorem headsA_3 (c : Dev nD) (t : Fin cfg0.N) (d : Fin 128) (e : Fin 256) :
    headsA m c t 3 (ix2 d e) = kernelRun0_A.sl.v2116 c (ms0_10 t) (hs0_10 t) (iblk m c 10 t) (ix4 0 3 d e) := by
  have hk : headsA m c t 3
          = shapeCast S128x256 (LoadRect.valAlong (head_numel 3) (scM0_0.view.readCov (Val := Elt F)
            [⟨Rect.unit (s := S2x4x128x256) ![1, 0, 0, 0] S1x4x128x256.size half_one, kernelRun0_A.sl.v2121 c (ms0_11 t) (hs0_11 t) (iblk m c 11 t)⟩,
              ⟨Rect.unit (s := S2x4x128x256) ![0, 0, 0, 0] S1x4x128x256.size half_zero, kernelRun0_A.sl.v2116 c (ms0_10 t) (hs0_10 t) (iblk m c 10 t)⟩]
            (Chunk.fwdRect.withinL (Chunk.headLift 3).toLoadRect (fun _ => rfl))) : Vec F S1x128x256 .f32) shapeCasts_S1x128x256_S128x256 := by sl_kernel_rfl
  rw [hk, head_first]

theorem headsA_all (c : Dev nD) (t : Fin cfg0.N) : ∀ (h : Fin 4) (d : Fin 128) (e : Fin 256),
    headsA m c t h (ix2 d e) = kernelRun0_A.sl.v2116 c (ms0_10 t) (hs0_10 t) (iblk m c 10 t) (ix4 0 h d e) :=
  Fin.forall_fin_succ.mpr ⟨headsA_0 m c t, Fin.forall_fin_succ.mpr ⟨headsA_1 m c t, Fin.forall_fin_succ.mpr ⟨headsA_2 m c t, Fin.forall_fin_succ.mpr ⟨headsA_3 m c t, fun h => h.elim0⟩⟩⟩⟩

theorem leaves_A (c : Dev nD) (t : Fin cfg0.N) (S : Vec F S2x4x128x256 .f32) (h0 : t.val % 16 = 0) (h1 : ¬t.val % 16 = 15) : Leaves m c t S (headsA m c t) := by
  have hs := stores_A m c t S h0 h1
  have h16 : (storesA m c t h0 h1).w16 = Chunk.outPieces (tilesAt m c t (headsA m c t)) :=
    out_pieces_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
  have hscr : (storesA m c t h0 h1).scr.drop 4 = Chunk.scrPieces (tilesAt m c t (headsA m c t)) ++ _ :=
    scr_pieces_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
  have hback : ((storesA m c t h0 h1).scr.take 4).map (fun p => (p.1.off 0, p.1.stride 0, p.1.size 0)) = [(1, 1, 1), (1, 1, 1), (1, 1, 1), (1, 1, 1)] :=
    scr_back_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)
  refine ⟨?_, ?_, ?_⟩
  · intro h d e
    rw [if_pos h0]
    have e2 : ∀ z : Vec F S1x4x128x256 .f32, shapeCast S4x128x256 z shapeCasts_S1x4x128x256_S4x128x256 (ix3 h d e) = z (ix4 0 h d e) := by
      intro z
      pointwise
    have e3 : ∀ z : Vec F S4x128x256 .f32, shapeCast S1x4x128x256 z shapeCasts_S4x128x256_S1x4x128x256 (ix4 0 h d e) = z (ix3 h d e) := by
      intro z
      pointwise
    have e4 : kernelRun0_A.sl.v2116 c (ms0_10 t) (hs0_10 t) (iblk m c 10 t) (ix4 0 h d e) = (iblk m c 10 t : Vec F S1x4x128x256 .f32) (ix4 0 h d e) :=
      (e3 _).trans ((e2 _).trans (first_load (ms0_10 t) (hs0_10 t) (iblk m c 10 t) _ h d e))
    exact (headsA_all m c t h d e).trans e4
  · intro j h r e
    rw [hs]
    unfold left16
    rw [h16]
    exact Chunk.out_read _ _ _ j h r e
  · intro h d e
    rw [hs]
    exact Chunk.scr_read _ _ _ _ _ hscr hback h d e

theorem leaves_B (c : Dev nD) (t : Fin cfg0.N) (S : Vec F S2x4x128x256 .f32) (h0 : ¬t.val % 16 = 0) (h1 : ¬t.val % 16 = 15) : Leaves m c t S (headsB c S) := by
  have hs := stores_B m c t S h0 h1
  have h16 : (storesB m c t h0 h1 S).w16 = Chunk.outPieces (tilesAt m c t (headsB c S)) :=
    out_pieces_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) S
  have hscr : (storesB m c t h0 h1 S).scr.drop 4 = Chunk.scrPieces (tilesAt m c t (headsB c S)) ++ _ :=
    scr_pieces_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) S
  have hback : ((storesB m c t h0 h1 S).scr.take 4).map (fun p => (p.1.off 0, p.1.stride 0, p.1.size 0)) = [(1, 1, 1), (1, 1, 1), (1, 1, 1), (1, 1, 1)] :=
    scr_back_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) S
  refine ⟨?_, ?_, ?_⟩
  · intro h d e
    rw [if_neg h0]
    match h with
    | 0 => exact Chunk.head_load scM0_0 (Memref.isWhole_whole _) S 0 _ d e
    | 1 => exact Chunk.head_load scM0_0 (Memref.isWhole_whole _) S 1 _ d e
    | 2 => exact Chunk.head_load scM0_0 (Memref.isWhole_whole _) S 2 _ d e
    | 3 => exact Chunk.head_load scM0_0 (Memref.isWhole_whole _) S 3 _ d e
  · intro j h r e
    rw [hs]
    unfold left16
    rw [h16]
    exact Chunk.out_read _ _ _ j h r e
  · intro h d e
    rw [hs]
    exact Chunk.scr_read _ _ _ _ _ hscr hback h d e

theorem leaves_C (c : Dev nD) (t : Fin cfg0.N) (S : Vec F S2x4x128x256 .f32) (h0 : ¬t.val % 16 = 0) (h1 : t.val % 16 = 15) : Leaves m c t S (headsC c S) := by
  have hs := stores_C m c t S h0 h1
  have h16 : (storesC m c t h0 h1 S).w16 = Chunk.outPieces (tilesAt m c t (headsC c S)) :=
    out_pieces_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) S
  have hscr : (storesC m c t h0 h1 S).scr.drop 4 = Chunk.scrPieces (tilesAt m c t (headsC c S)) ++ _ :=
    scr_pieces_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) S
  have hback : ((storesC m c t h0 h1 S).scr.take 4).map (fun p => (p.1.off 0, p.1.stride 0, p.1.size 0)) = [(1, 1, 1), (1, 1, 1), (1, 1, 1), (1, 1, 1)] :=
    scr_back_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) S
  refine ⟨?_, ?_, ?_⟩
  · intro h d e
    rw [if_neg h0]
    match h with
    | 0 => exact Chunk.head_load scM0_0 (Memref.isWhole_whole _) S 0 _ d e
    | 1 => exact Chunk.head_load scM0_0 (Memref.isWhole_whole _) S 1 _ d e
    | 2 => exact Chunk.head_load scM0_0 (Memref.isWhole_whole _) S 2 _ d e
    | 3 => exact Chunk.head_load scM0_0 (Memref.isWhole_whole _) S 3 _ d e
  · intro j h r e
    rw [hs]
    unfold left16
    rw [h16]
    exact Chunk.out_read _ _ _ j h r e
  · intro h d e
    rw [hs]
    exact Chunk.scr_read _ _ _ _ _ hscr hback h d e

theorem leaves (c : Dev nD) (t : Fin cfg0.N) (S : Vec F S2x4x128x256 .f32) : ∃ s, Leaves m c t S s := by
  by_cases h0 : t.val % 16 = 0
  · exact ⟨_, leaves_A m c t S h0 (by omega)⟩
  · by_cases h1 : t.val % 16 = 15
    · exact ⟨_, leaves_C m c t S h0 h1⟩
    · exact ⟨_, leaves_B m c t S h0 h1⟩

end Cert.KernelIdeal.Gen
end
-- ==== Proof.Ideal.Blocks.lean ====
module

public import proofs.«01_k».proof.Proof.Ideal.Frame
public import Idealize.ShloMosaic.Lib.Pointwise

/-! The blocks that a point reads, entry by entry: point `t` is the position block `t % 16` of batch row `t / 16`. -/

@[expose] public section

set_option maxRecDepth 16384

noncomputable section

namespace Cert.KernelIdeal.Gen

open Idealize.ShloMosaic Idealize.ShloMosaic.TcCoe Idealize.SL.Sem

variable {F : FTy → Type} [FloatOps F] [Named F]
variable (m : (ℓ : Loc nD τ sig) → Buf (Elt F) ℓ) (c : Dev nD)

theorem index_0 (t : Fin cfg0.N) : win0_0.index t 0 = t.val / 16 ∧ win0_0.index t 1 = t.val % 16 ∧ win0_0.index t 2 = 0 :=
  (by decide : ∀ t : Fin grid0.N, win0_0.index t 0 = t.val / 16 ∧ win0_0.index t 1 = t.val % 16 ∧ win0_0.index t 2 = 0) t
theorem index_1 (t : Fin cfg0.N) : win0_1.index t 0 = t.val / 16 ∧ win0_1.index t 1 = t.val % 16 ∧ win0_1.index t 2 = 1 :=
  (by decide : ∀ t : Fin grid0.N, win0_1.index t 0 = t.val / 16 ∧ win0_1.index t 1 = t.val % 16 ∧ win0_1.index t 2 = 1) t
theorem index_2 (t : Fin cfg0.N) : win0_2.index t 0 = t.val / 16 ∧ win0_2.index t 1 = t.val % 16 ∧ win0_2.index t 2 = 0 :=
  (by decide : ∀ t : Fin grid0.N, win0_2.index t 0 = t.val / 16 ∧ win0_2.index t 1 = t.val % 16 ∧ win0_2.index t 2 = 0) t
theorem index_6 (t : Fin cfg0.N) : win0_6.index t 0 = 0 ∧ win0_6.index t 1 = 0 :=
  (by decide : ∀ t : Fin grid0.N, win0_6.index t 0 = 0 ∧ win0_6.index t 1 = 0) t
theorem index_7 (t : Fin cfg0.N) : win0_7.index t 0 = 0 ∧ win0_7.index t 1 = 0 :=
  (by decide : ∀ t : Fin grid0.N, win0_7.index t 0 = 0 ∧ win0_7.index t 1 = 0) t
theorem index_10 (t : Fin cfg0.N) : win0_10.index t 0 = t.val / 16 ∧ win0_10.index t 1 = 0 ∧ win0_10.index t 2 = 0 ∧ win0_10.index t 3 = 0 :=
  (by decide : ∀ t : Fin grid0.N, win0_10.index t 0 = t.val / 16 ∧ win0_10.index t 1 = 0 ∧ win0_10.index t 2 = 0 ∧ win0_10.index t 3 = 0) t
theorem index_16 (t : Fin cfg0.N) : win0_16.index t 0 = t.val / 16 ∧ win0_16.index t 1 = t.val % 16 ∧ win0_16.index t 2 = 0 :=
  (by decide : ∀ t : Fin grid0.N, win0_16.index t 0 = t.val / 16 ∧ win0_16.index t 1 = t.val % 16 ∧ win0_16.index t 2 = 0) t

/-- The batch row of a point, and the position of its row `r`. -/
abbrev rowOf (t : Fin cfg0.N) : Fin 2 := ⟨t.val / 16, by have : t.val < 32 := t.2; omega⟩
abbrev posOf (t : Fin cfg0.N) (r : Fin 512) : Fin 8192 := ⟨512 * (t.val % 16) + r.val, by omega⟩

theorem iblk_0 (t : Fin cfg0.N) (r : Fin 512) (z : Fin 1024) :
    (iblk m c 0 t : Vec F S1x512x1024 .bf16) (ix3 0 r z) = m ((c : Thread nD τ).loc main_arg0) (ix3 (rowOf t) (posOf t r) ⟨z.val, by omega⟩) := by
  have hi := index_0 t
  unfold iblk
  rw [View.read_apply]
  show V m c main_arg0 _ = m (c.tc.loc main_arg0) _
  rw [V_main_arg0]
  congr 1
  funext a
  apply Fin.ext
  match a with
  | ⟨0, _⟩ => show win0_0.index t 0 * 1 + 1 * 0 = t.val / 16; rw [hi.1]; omega
  | ⟨1, _⟩ => show win0_0.index t 1 * 512 + 1 * r.val = 512 * (t.val % 16) + r.val; rw [hi.2.1]; omega
  | ⟨2, _⟩ => show win0_0.index t 2 * 1024 + 1 * z.val = z.val; rw [hi.2.2]; omega

theorem iblk_1 (t : Fin cfg0.N) (r : Fin 512) (z : Fin 1024) :
    (iblk m c 1 t : Vec F S1x512x1024 .bf16) (ix3 0 r z) = m ((c : Thread nD τ).loc main_arg0) (ix3 (rowOf t) (posOf t r) ⟨1024 + z.val, by omega⟩) := by
  have hi := index_1 t
  unfold iblk
  rw [View.read_apply]
  show V m c main_arg0 _ = m (c.tc.loc main_arg0) _
  rw [V_main_arg0]
  congr 1
  funext a
  apply Fin.ext
  match a with
  | ⟨0, _⟩ => show win0_1.index t 0 * 1 + 1 * 0 = t.val / 16; rw [hi.1]; omega
  | ⟨1, _⟩ => show win0_1.index t 1 * 512 + 1 * r.val = 512 * (t.val % 16) + r.val; rw [hi.2.1]; omega
  | ⟨2, _⟩ => show win0_1.index t 2 * 1024 + 1 * z.val = 1024 + z.val; rw [hi.2.2]; omega

theorem iblk_2 (t : Fin cfg0.N) (r : Fin 512) (z : Fin 128) :
    (iblk m c 2 t : Vec F S1x512x128 .f32) (ix3 0 r z) = m ((c : Thread nD τ).loc main_arg1) (ix3 (rowOf t) (posOf t r) z) := by
  have hi := index_2 t
  unfold iblk
  rw [View.read_apply]
  show V m c main_arg1 _ = m (c.tc.loc main_arg1) _
  rw [V_main_arg1]
  congr 1
  funext a
  apply Fin.ext
  match a with
  | ⟨0, _⟩ => show win0_2.index t 0 * 1 + 1 * 0 = t.val / 16; rw [hi.1]; omega
  | ⟨1, _⟩ => show win0_2.index t 1 * 512 + 1 * r.val = 512 * (t.val % 16) + r.val; rw [hi.2.1]; omega
  | ⟨2, _⟩ => show win0_2.index t 2 * 128 + 1 * z.val = z.val; rw [hi.2.2]; omega

theorem iblk_10 (t : Fin cfg0.N) (h : Fin 4) (d : Fin 128) (e : Fin 256) :
    (iblk m c 10 t : Vec F S1x4x128x256 .f32) (ix4 0 h d e) = m ((c : Thread nD τ).loc main_arg6) (ix4 (rowOf t) h d e) := by
  have hi := index_10 t
  unfold iblk
  rw [View.read_apply]
  show V m c main_arg6 _ = m (c.tc.loc main_arg6) _
  rw [V_main_arg6]
  congr 1
  funext a
  apply Fin.ext
  match a with
  | ⟨0, _⟩ => show win0_10.index t 0 * 1 + 1 * 0 = t.val / 16; rw [hi.1]; omega
  | ⟨1, _⟩ => show win0_10.index t 1 * 4 + 1 * h.val = h.val; rw [hi.2.1]; omega
  | ⟨2, _⟩ => show win0_10.index t 2 * 128 + 1 * d.val = d.val; rw [hi.2.2.1]; omega
  | ⟨3, _⟩ => show win0_10.index t 3 * 256 + 1 * e.val = e.val; rw [hi.2.2.2]; omega

theorem iblk_6 (t : Fin cfg0.N) (x : Fin 128) (z : Fin 512) :
    (iblk m c 6 t : Vec F S128x512 .bf16) (ix2 x z) = (V m c main_v4 : Vec F S128x512 .bf16) (ix2 x z) := by
  have hi := index_6 t
  unfold iblk
  rw [View.read_apply]
  show V m c main_v4 _ = V m c main_v4 _
  congr 1
  funext a
  apply Fin.ext
  match a with
  | ⟨0, _⟩ => show win0_6.index t 0 * 128 + 1 * x.val = x.val; rw [hi.1]; omega
  | ⟨1, _⟩ => show win0_6.index t 1 * 512 + 1 * z.val = z.val; rw [hi.2]; omega

theorem iblk_7 (t : Fin cfg0.N) (z : Fin 512) :
    (iblk m c 7 t : Vec F S1x512 .f32) (ix2 0 z) = (V m c main_v11 : Vec F S1x512 .f32) (ix2 0 z) := by
  have hi := index_7 t
  unfold iblk
  rw [View.read_apply]
  show V m c main_v11 _ = V m c main_v11 _
  congr 1
  funext a
  apply Fin.ext
  match a with
  | ⟨0, _⟩ => show win0_7.index t 0 * 1 + 1 * 0 = 0; rw [hi.1]
  | ⟨1, _⟩ => show win0_7.index t 1 * 512 + 1 * z.val = z.val; rw [hi.2]; omega

end Cert.KernelIdeal.Gen
end
-- ==== Proof.Ideal.Operands.lean ====
module

public import proofs.«01_k».proof.Proof.Ideal.Blocks
public import Idealize.ShloMosaic.Lib.Routing.OpsPair
public import Idealize.ShloMosaic.Lib.Routing.OpsSet

/-! The two operands that the host prepares for the forward gates: the weights padded to 128 rows, and the biases. -/

@[expose] public section

set_option maxRecDepth 16384

noncomputable section

namespace Cert.KernelIdeal.Gen

open Idealize.ShloMosaic Idealize.ShloMosaic.TcCoe Idealize.SL.Sem

variable (m : (ℓ : Loc nD τ sig) → Buf (Elt Ideal) ℓ) (c : Dev nD)

theorem V_bias (z : Fin 512) : (V m c main_v11 : Vec Ideal S1x512 .f32) (ix2 0 z) = (m ((c : Thread nD τ).loc main_arg3) : Vec Ideal S1x512 .f32) (ix2 0 z) := by
  entry_read
  pointwise

/-- Update `(x', z')` of the padding lands at row `x'`, column `z'`. -/
theorem pad_lands (idx : IVec S1 32) (h0 : ∀ i, (idx i).toInt = 0) (x' : Fin 16) (z' z : Fin 512) (x : Fin 128) :
    scatter_S128x512_S1_S16x512_01_n_0_0.resultIdx? (ix2 x' z') idx = some (ix2 x z) ↔ x'.val = x.val ∧ z'.val = z.val := by
  have hs0 : scatter_S128x512_S1_S16x512_01_n_0_0.start (ix2 x' z') idx 0 = 0 := by
    unfold ScatterDims.start
    rw [dif_pos (by decide)]
    exact h0 _
  have hs1 : scatter_S128x512_S1_S16x512_01_n_0_0.start (ix2 x' z') idx 1 = 0 := by
    unfold ScatterDims.start
    rw [dif_neg (by decide)]
  have hw0 : scatter_S128x512_S1_S16x512_01_n_0_0.window (ix2 x' z') 0 = x'.val := rfl
  have hw1 : scatter_S128x512_S1_S16x512_01_n_0_0.window (ix2 x' z') 1 = z'.val := rfl
  refine (Routing.resultIdx?_ix2 _ _ _ _ _).trans ?_
  rw [hs0, hs1, hw0, hw1]
  omega

theorem pad_apply (x0 : FVec Ideal S128x512 .f32) (idx : IVec S1 32) (h0 : ∀ i, (idx i).toInt = 0) (u : FVec Ideal S16x512 .f32) (x : Fin 128) (z : Fin 512) :
    Host.scatter scatter_S128x512_S1_S16x512_01_n_0_0 (fun _ b => b) x0 idx u (ix2 x z) = if h : x.val < 16 then u (ix2 ⟨x.val, h⟩ z) else x0 (ix2 x z) := by
  have e : ∀ k : S16x512.Idx, k = ix2 (k 0) (k 1) := fun k => by
    funext a
    fin_cases a <;> rfl
  split_ifs with h
  · refine Routing.scatter_set_hit _ x0 idx u _ _ (fun k hk => ?_) (ix2 ⟨x.val, h⟩ z) ((pad_lands idx h0 _ _ _ _).2 ⟨rfl, rfl⟩)
    rw [e k] at hk ⊢
    obtain ⟨h1, h2⟩ := (pad_lands idx h0 _ _ _ _).1 hk
    exact congrArg₂ (fun a b => u (ix2 a b)) (Fin.ext h1) (Fin.ext h2)
  · refine Routing.scatter_set_miss _ x0 idx u _ fun k hk => h ?_
    rw [e k] at hk
    have := ((pad_lands idx h0 _ _ _ _).1 hk).1
    have := (k 0).2
    change (k 0).val < 16 at this
    omega

theorem V_weights (x : Fin 128) (z : Fin 512) : (V m c main_v4 : Vec Ideal S128x512 .bf16) (ix2 x z)
    = if h : x.val < 16 then (m ((c : Thread nD τ).loc main_arg2) : Vec Ideal S1x16x512 .f32) (ix3 0 ⟨x.val, h⟩ z) else (0 : EReal) := by
  entry_read
  have key : ∀ y : FVec Ideal S128x512 .f32, (truncf .bf16 y bitsLt_bf16_f32 : FVec Ideal S128x512 .bf16) (ix2 x z) = y (ix2 x z) := fun _ => rfl
  rw [key, pad_apply _ _ (fun _ => rfl)]
  split_ifs with h
  · pointwise
  · pointwise

end Cert.KernelIdeal.Gen
end
-- ==== Proof.Gla.Recurrence.lean ====
module

public import Mathlib.Analysis.SpecialFunctions.Exp
public import Mathlib.Algebra.BigOperators.Fin

/-! The recurrence of gated linear attention over the reals, one entry `(d, e)` of the state at a time, and its
    form over a chunk of consecutive positions. -/

@[expose] public section

noncomputable section

namespace Gla

open Finset

/-- The state's entry after `n` positions: it decays by the position's gate and gains the product of the
    position's key and value. -/
def st (a k v : ℕ → ℝ) (s0 : ℝ) : ℕ → ℝ
  | 0 => s0
  | n + 1 => Real.exp (a n) * st a k v s0 n + k n * v n

/-- The logarithms of the gates of positions `n … n + j - 1`, added. -/
def cum (a : ℕ → ℝ) (n j : ℕ) : ℝ := ∑ i ∈ range j, a (n + i)

theorem cum_succ (a : ℕ → ℝ) (n j : ℕ) : cum a n (j + 1) = cum a n j + a (n + j) := sum_range_succ _ _

/-- The state after `j` more positions, from the state before them. -/
theorem st_add (a k v : ℕ → ℝ) (s0 : ℝ) (n j : ℕ) :
    st a k v s0 (n + j) = Real.exp (cum a n j) * st a k v s0 n
      + ∑ s ∈ range j, k (n + s) * Real.exp (cum a n j - cum a n (s + 1)) * v (n + s) := by
  induction j with
  | zero => simp [cum]
  | succ j ih =>
    rw [← Nat.add_assoc, st, ih, sum_range_succ, cum_succ, sub_self, Real.exp_zero, Real.exp_add, mul_add, mul_sum,
      ← add_assoc, mul_one]
    congr 2
    · ring
    · refine sum_congr rfl fun s _ => ?_
      rw [show cum a n j + a (n + j) - cum a n (s + 1) = a (n + j) + (cum a n j - cum a n (s + 1)) by ring,
        Real.exp_add]
      ring

/-- The same over a chunk of `C` positions. -/
theorem st_chunk (a k v : ℕ → ℝ) (s0 : ℝ) (n C : ℕ) :
    st a k v s0 (n + C) = st a k v s0 n * Real.exp (cum a n C)
      + ∑ s : Fin C, (k (n + s) * Real.exp (cum a n C - cum a n (s + 1))) * v (n + s) := by
  rw [st_add, mul_comm, Fin.sum_univ_eq_sum_range (fun s => k (n + s) * Real.exp (cum a n C - cum a n (s + 1)) * v (n + s))]

/-- The output at position `j` of a chunk: the scores of the positions up to it against their values, and the query
    against the state before the chunk. -/
theorem out_chunk {D : Type*} [Fintype D] (a k : D → ℕ → ℝ) (v : ℕ → ℝ) (s0 q : D → ℝ) (n C : ℕ) (j : Fin C) :
    ∑ d, q d * st (a d) (k d) v (s0 d) (n + j + 1)
      = (∑ s : Fin C, (if s ≤ j then ∑ d, (q d * Real.exp (cum (a d) n (j + 1))) * (k d (n + s) * Real.exp (-cum (a d) n (s + 1))) else 0) * v (n + s))
        + ∑ d, (q d * Real.exp (cum (a d) n (j + 1))) * st (a d) (k d) v (s0 d) n := by
  have h : ∀ d, q d * st (a d) (k d) v (s0 d) (n + j + 1)
      = (∑ s : Fin C, (if s ≤ j then (q d * Real.exp (cum (a d) n (j + 1))) * (k d (n + s) * Real.exp (-cum (a d) n (s + 1))) else 0) * v (n + s))
        + (q d * Real.exp (cum (a d) n (j + 1))) * st (a d) (k d) v (s0 d) n := by
    intro d
    rw [Nat.add_assoc, st_add, mul_add, add_comm]
    congr 1
    · simp only [Fin.le_def]
      rw [Fin.sum_univ_eq_sum_range (fun s => (if s ≤ (j : ℕ) then (q d * Real.exp (cum (a d) n (j + 1))) * (k d (n + s) * Real.exp (-cum (a d) n (s + 1))) else 0) * v (n + s)) C]
      rw [← sum_subset (range_subset_range.2 j.2), mul_sum]
      · refine sum_congr rfl fun s hs => ?_
        rw [if_pos (Nat.lt_succ_iff.1 (mem_range.1 hs)), sub_eq_add_neg, Real.exp_add]
        ring
      · intro s _ hs
        rw [if_neg (fun h => hs (mem_range.2 (Nat.lt_succ_iff.2 h))), zero_mul]
    · ring
  rw [sum_congr rfl fun d _ => h d, sum_add_distrib, sum_comm]
  congr 1
  refine sum_congr rfl fun s _ => ?_
  rw [← sum_mul]
  split_ifs <;> simp

end Gla
-- ==== Proof.Ideal.ChunkReal.lean ====
module

public import proofs.«01_k».proof.Proof.Ideal.Chunk
public import proofs.«01_k».proof.Proof.Gla.Recurrence
public import Idealize.ShloMosaic.PureOps.IdealRules
public import Mathlib.Analysis.SpecialFunctions.Pow.Real

/-! The chunks over the reals: where the tiles hold real numbers, the forward states and outputs of the chunks are the
recurrence's. -/

@[expose] public section

set_option maxRecDepth 16384

noncomputable section

namespace Cert.KernelIdeal.Gen

open Idealize.ShloMosaic Idealize.SL.Sem

namespace Chunk

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

theorem bits_shift : Ideal.ofBits .f32 0xC0600000#32 = ((-(7 / 2) : ℝ) : EReal) := by
  simp [Ideal.ofBits, Ideal.ieee, -EReal.coe_mul]; norm_num

theorem exp2_log2 (y : ℝ) : (FloatOps.exp2 (F := Ideal) (φ := .f32) (((Real.log 2)⁻¹ * y : ℝ) : EReal) : EReal) = (Real.exp y : EReal) := by
  refine (Ideal.exp2_coe _).trans (congrArg _ ?_)
  rw [Real.rpow_eq_pow]
  rw [Real.rpow_def_of_pos (by norm_num), ← mul_assoc, mul_inv_cancel₀ (Real.log_pos (by norm_num)).ne', one_mul]

theorem exp2_shift (y : ℝ) : (FloatOps.exp2 (F := Ideal) (φ := .f32) (((Real.log 2)⁻¹ * y + -(7 / 2) : ℝ) : EReal) : EReal)
    = (Real.exp y * (Real.sqrt 128)⁻¹ : ℝ) := by
  refine (Ideal.exp2_coe _).trans (congrArg _ ?_)
  rw [Real.rpow_eq_pow]
  rw [Real.rpow_add (by norm_num)]
  congr 1
  · rw [Real.rpow_def_of_pos (by norm_num), ← mul_assoc, mul_inv_cancel₀ (Real.log_pos (by norm_num)).ne', one_mul]
  · rw [Real.rpow_neg (by norm_num), Real.sqrt_eq_rpow]
    congr 1
    rw [show (128 : ℝ) = 2 ^ (7 : ℝ) by norm_num, ← Real.rpow_mul (by norm_num)]
    norm_num

theorem toInt_small (r : Fin 128) : (BitVec.ofNat 32 r.val).toInt = (r.val : ℤ) := by
  revert r
  decide

theorem keepF_select (r x : Fin 128) (A B : EReal) :
    Scalar.select (keepF (ix2 r x)) A B = if x ≤ r then A else B := by
  have h : keepF (ix2 r x) = if x ≤ r then 1#1 else 0#1 := by
    unfold keepF
    pointwise
    have hr := toInt_small r
    have hx := toInt_small x
    simp only [IntOp.cmpi, BitVec.sle, hr, hx, Int.ofNat_le, Fin.le_def]
    by_cases h : x.val ≤ r.val <;> simp [h]
  rw [h]
  split_ifs <;> rfl

theorem sum_le (f : ℕ → ℝ) (r : Fin 128) : (∑ x : Fin 128, if x ≤ r then f x.val else 0) = ∑ i ∈ Finset.range (r.val + 1), f i := by
  simp only [Fin.le_def]
  rw [Fin.sum_univ_eq_sum_range (fun i => if i ≤ r.val then f i else 0) 128, ← Finset.sum_subset (Finset.range_subset_range.2 r.2)]
  · exact Finset.sum_congr rfl fun i hi => if_pos (Nat.lt_succ_iff.1 (Finset.mem_range.1 hi))
  · intro i _ hi
    exact if_neg fun h => hi (Finset.mem_range.2 (Nat.lt_succ_iff.2 h))

theorem cumAll_apply (keep : IVec S128x128 1) (g : FVec Ideal S128x512 .f32) (r : Fin 128) (c : Fin 512) :
    cumAll keep g (ix2 r c) = ∑ x : Fin 128, Scalar.select (keep (ix2 r x)) (g (ix2 x c)) (0 : EReal)
      + ∑ x : Fin 128, Scalar.select (keep (ix2 r x)) (g (ix2 x c) - g (ix2 x c)) (0 : EReal) := by
  pointwise [cumAll, tri]

theorem next_apply (cum : FVec Ideal S128x128 .f32) (tot : FVec Ideal S1x128 .f32)
    (k : Vec Ideal S1x128x128 .bf16) (v : Vec Ideal S1x128x256 .bf16) (s : FVec Ideal S128x256 .f32) (r : Fin 128) (c : Fin 256) :
    next cum tot k v s (ix2 r c) = s (ix2 r c) * FloatOps.exp2 (F := Ideal) (tot (ix2 0 r))
      + ∑ x : Fin 128, k (ix3 0 x r) * FloatOps.exp2 (F := Ideal) (tot (ix2 0 r) - cum (ix2 x r)) * v (ix3 0 x c) := by
  pointwise [next, decay, kEnd, wide, vals]
  split_ifs <;> rfl

theorem out_apply (keep : IVec S128x128 1) (cum : FVec Ideal S128x128 .f32) (mid : FVec Ideal S1x128 .f32)
    (q k : Vec Ideal S1x128x128 .bf16) (v : Vec Ideal S1x128x256 .bf16) (s : FVec Ideal S128x256 .f32) (r : Fin 128) (c : Fin 256) :
    out keep cum mid q k v s (ix3 0 r c)
      = ∑ x : Fin 128, Scalar.select (keep (ix2 r x)) (∑ d : Fin 128, (q (ix3 0 r d) * FloatOps.exp2 (F := Ideal) (cum (ix2 r d) - (mid (ix2 0 d) - Ideal.ofBits .f32 0xC0600000#32)))
          * (k (ix3 0 x d) * FloatOps.exp2 (F := Ideal) (mid (ix2 0 d) - cum (ix2 x d)))) (0 : EReal) * v (ix3 0 x c)
        + ∑ d : Fin 128, q (ix3 0 r d) * FloatOps.exp2 (F := Ideal) (cum (ix2 r d) + Ideal.ofBits .f32 0xC0600000#32) * s (ix2 d c) := by
  pointwise [out, scores, qMid, kMid, qDec, wide, vals]

/-- The tiles of a point whose first position is `n` hold real numbers, the states those of the recurrence. -/
structure Holds (T : Tiles Ideal) (q k a : Fin 4 → Fin 128 → ℕ → ℝ) (v : Fin 4 → Fin 256 → ℕ → ℝ)
    (s : Fin 4 → Fin 128 → Fin 256 → ℝ) (n : ℕ) : Prop where
  hq : ∀ j h (r d : Fin 128), T.q j h (ix3 0 r d) = ((q h d (n + 128 * j.val + r.val) : ℝ) : EReal)
  hk : ∀ j h (r d : Fin 128), T.k j h (ix3 0 r d) = ((k h d (n + 128 * j.val + r.val) : ℝ) : EReal)
  hv : ∀ j h (r : Fin 128) (e : Fin 256), T.v j h (ix3 0 r e) = ((v h e (n + 128 * j.val + r.val) : ℝ) : EReal)
  hg : ∀ j (h : Fin 4) (r d : Fin 128), gates (T.lr j) T.w T.b (ix2 r ⟨128 * h.val + d.val, by omega⟩)
    = (((Real.log 2)⁻¹ * a h d (n + 128 * j.val + r.val) : ℝ) : EReal)
  hs : ∀ h (d : Fin 128) (e : Fin 256), T.s h (ix2 d e) = ((Gla.st (a h d) (k h d) (v h e) (s h d e) n : ℝ) : EReal)

section
variable {T : Tiles Ideal} {q k a : Fin 4 → Fin 128 → ℕ → ℝ} {v : Fin 4 → Fin 256 → ℕ → ℝ}
  {s : Fin 4 → Fin 128 → Fin 256 → ℝ} {n : ℕ} (H : Holds T q k a v s n)
include H

theorem Holds.cum (j h : Fin 4) (r d : Fin 128) :
    cumF T j.val h (ix2 r d) = (((Real.log 2)⁻¹ * Gla.cum (a h d) (n + 128 * j.val) (r.val + 1) : ℝ) : EReal) := by
  have e : cumF T j.val h (ix2 r d) = cumAll keepF (gates (T.lr j) T.w T.b) (ix2 r ⟨128 * h.val + d.val, by omega⟩) := by
    unfold cumF
    rw [show Fin.ofNat 4 j.val = j from Fin.ext (Nat.mod_eq_of_lt j.2)]
    pointwise
  rw [e, cumAll_apply]
  simp only [H.hg, keepF_select, ← EReal.coe_sub, sub_self, EReal.coe_zero, ite_self, Finset.sum_const_zero, add_zero]
  rw [Gla.cum, ← sum_le (fun i => a h d (n + 128 * j.val + i)), Finset.mul_sum, coe_sum]
  refine Finset.sum_congr rfl fun x _ => ?_
  split_ifs <;> simp

theorem Holds.state (h : Fin 4) (d : Fin 128) (e : Fin 256) : ∀ j : ℕ, j ≤ 4 →
    stF T h j (ix2 d e) = ((Gla.st (a h d) (k h d) (v h e) (s h d e) (n + 128 * j) : ℝ) : EReal)
  | 0, _ => H.hs h d e
  | j + 1, hj => by
    have ih := Holds.state h d e j (by omega)
    have hc := H.cum ⟨j, by omega⟩ h
    have hk := H.hk ⟨j, by omega⟩ h
    have hv := H.hv ⟨j, by omega⟩ h
    have hf : Fin.ofNat 4 j = ⟨j, by omega⟩ := Fin.ext (Nat.mod_eq_of_lt (by omega))
    have ht : ∀ d : Fin 128, extractStridedSlice S1x128 ![127, 0] (cumF T j h) slices_S128x128_o127_0_S1x128 (ix2 0 d)
        = (((Real.log 2)⁻¹ * Gla.cum (a h d) (n + 128 * j) 128 : ℝ) : EReal) := fun d => by
      refine Eq.trans ?_ (hc ⟨127, by omega⟩ d)
      pointwise
    rw [stF, next_apply, ht, ih, hf]
    simp only [hc, hk, hv, ← EReal.coe_sub, ← mul_sub, exp2_log2, ← EReal.coe_mul, ← coe_sum, ← EReal.coe_add]
    rw [show n + 128 * (j + 1) = n + 128 * j + 128 by ring, Gla.st_chunk (n := n + 128 * j)]

theorem Holds.output (j h : Fin 4) (r : Fin 128) (e : Fin 256) :
    outF T j.val h (ix3 0 r e) = ((∑ d, (q h d (n + 128 * j.val + r.val) * (Real.sqrt 128)⁻¹)
      * Gla.st (a h d) (k h d) (v h e) (s h d e) (n + 128 * j.val + r.val + 1) : ℝ) : EReal) := by
  have hc := H.cum j h
  have hq := H.hq j h
  have hk := H.hk j h
  have hv := H.hv j h
  have hst := fun d => H.state h d e j.val (by omega)
  have hf : Fin.ofNat 4 j.val = j := Fin.ext (Nat.mod_eq_of_lt j.2)
  have hm : ∀ d : Fin 128, extractStridedSlice S1x128 ![63, 0] (cumF T j.val h) slices_S128x128_o63_0_S1x128 (ix2 0 d)
      = (((Real.log 2)⁻¹ * Gla.cum (a h d) (n + 128 * j.val) 64 : ℝ) : EReal) := fun d => by
    refine Eq.trans ?_ (hc ⟨63, by omega⟩ d)
    pointwise
  have e1 : ∀ x y : ℝ, (Real.log 2)⁻¹ * x - ((Real.log 2)⁻¹ * y - -(7 / 2)) = (Real.log 2)⁻¹ * (x - y) + -(7 / 2) := fun x y => by ring
  rw [outF, out_apply, hf]
  simp only [hc, hq, hk, hv, hm, hst, bits_shift, ← EReal.coe_sub, ← EReal.coe_add, e1, ← mul_sub, exp2_log2, exp2_shift, ← EReal.coe_mul, ← coe_sum,
    keepF_select]
  rw [Gla.out_chunk (fun d => a h d) (fun d => k h d) (v h e) (fun d => s h d e) (fun d => q h d (n + 128 * j.val + r.val) * (Real.sqrt 128)⁻¹) (n + 128 * j.val) 128 r]
  rw [EReal.coe_add]
  congr 1
  · refine Eq.trans (Finset.sum_congr rfl fun x _ => ?_) (coe_sum _ _).symm
    rw [EReal.coe_mul]
    congr 1
    split_ifs
    · refine congrArg _ (Finset.sum_congr rfl fun d _ => ?_)
      rw [Real.exp_sub, Real.exp_sub, Real.exp_neg]
      field_simp
    · rfl
  · refine congrArg _ (Finset.sum_congr rfl fun d _ => ?_)
    ring

end

end Chunk
end Cert.KernelIdeal.Gen
end
-- ==== Proof.Gla.Data.lean ====
module

public import proofs.«01_k».proof.Proof.Gla.Recurrence
public import Mathlib.Analysis.SpecialFunctions.Log.Basic
public import Mathlib.Analysis.SpecialFunctions.Pow.Real
public import Idealize.ShloMosaic.Lib.Pointwise
public import Idealize.ShloMosaic.PureOps.IdealRules

/-! The forward gated linear attention over the reals: the numbers it reads, by batch row, position and column, and the
    outputs of its recurrence. -/

@[expose] public section

noncomputable section

namespace Gla

open Idealize.ShloMosaic

/-- The projections, the low-rank gate inputs, the gates' weights and biases, and the initial states. -/
structure Data where
  p : Fin 2 → ℕ → ℕ → ℝ
  lr : Fin 2 → ℕ → ℕ → ℝ
  w : ℕ → ℕ → ℝ
  b : ℕ → ℝ
  s : Fin 2 → Fin 4 → Fin 128 → Fin 256 → ℝ

namespace Data

variable (D : Data)

def q (b : Fin 2) (h : Fin 4) (d : Fin 128) (n : ℕ) : ℝ := D.p b n (128 * h.val + d.val)
def k (b : Fin 2) (h : Fin 4) (d : Fin 128) (n : ℕ) : ℝ := D.p b n (512 + 128 * h.val + d.val)
def v (b : Fin 2) (h : Fin 4) (e : Fin 256) (n : ℕ) : ℝ := D.p b n (1024 + (256 * h.val + e.val))

/-- The logit of a gate, -/
def logit (b : Fin 2) (h : Fin 4) (d : Fin 128) (n : ℕ) : ℝ :=
  (∑ x : Fin 16, D.lr b n x.val * D.w x.val (128 * h.val + d.val)) + D.b (128 * h.val + d.val)

/-- the logarithm of its sigmoid, -/
def logSigmoid (z : ℝ) : ℝ := min z 0 - Real.log (1 + Real.exp (-|z|))

/-- and the logarithm of the gate. -/
def a (b : Fin 2) (h : Fin 4) (d : Fin 128) (n : ℕ) : ℝ := logSigmoid (D.logit b h d n) / 16

/-- The output at position `n`. -/
def out (b : Fin 2) (n : ℕ) (h : Fin 4) (e : Fin 256) : ℝ :=
  ∑ d : Fin 128, D.q b h d n * (Real.sqrt 128)⁻¹ * st (D.a b h d) (D.k b h d) (D.v b h e) (D.s b h d e) (n + 1)

/-- The array of the outputs, the heads side by side. -/
def result : Vec Ideal ⟨3, ![2, 8192, 1024]⟩ .bf16 := fun i =>
  ((D.out (i 0) (i 1).val ⟨(i 2).val / 256, by have : (i 2).val < 1024 := (i 2).isLt; omega⟩ ⟨(i 2).val % 256, Nat.mod_lt _ (by omega)⟩ : ℝ) : EReal)

/-- The arrays hold the numbers. -/
structure Held (P : Vec Ideal ⟨3, ![2, 8192, 8192]⟩ .bf16) (L : Vec Ideal ⟨3, ![2, 8192, 128]⟩ .f32) (W : Vec Ideal ⟨3, ![1, 16, 512]⟩ .f32)
    (B : Vec Ideal ⟨2, ![1, 512]⟩ .f32) (S : Vec Ideal ⟨4, ![2, 4, 128, 256]⟩ .f32) : Prop where
  p : ∀ (b : Fin 2) (n z : Fin 8192), P (ix3 b n z) = ((D.p b n.val z.val : ℝ) : EReal)
  lr : ∀ (b : Fin 2) (n : Fin 8192) (x : Fin 128), L (ix3 b n x) = ((D.lr b n.val x.val : ℝ) : EReal)
  w : ∀ (x : Fin 16) (z : Fin 512), W (ix3 0 x z) = ((D.w x.val z.val : ℝ) : EReal)
  b : ∀ z : Fin 512, B (ix2 0 z) = ((D.b z.val : ℝ) : EReal)
  s : ∀ (b : Fin 2) (h : Fin 4) (d : Fin 128) (e : Fin 256), S (ix4 b h d e) = ((D.s b h d e : ℝ) : EReal)

end Data

/-- The numbers that finite arrays hold. -/
def dataOf (P : Vec Ideal ⟨3, ![2, 8192, 8192]⟩ .bf16) (L : Vec Ideal ⟨3, ![2, 8192, 128]⟩ .f32) (W : Vec Ideal ⟨3, ![1, 16, 512]⟩ .f32)
    (B : Vec Ideal ⟨2, ![1, 512]⟩ .f32) (S : Vec Ideal ⟨4, ![2, 4, 128, 256]⟩ .f32) : Data where
  p b n z := EReal.toReal (P (ix3 b (Fin.ofNat 8192 n) (Fin.ofNat 8192 z)))
  lr b n x := EReal.toReal (L (ix3 b (Fin.ofNat 8192 n) (Fin.ofNat 128 x)))
  w x z := EReal.toReal (W (ix3 0 (Fin.ofNat 16 x) (Fin.ofNat 512 z)))
  b z := EReal.toReal (B (ix2 0 (Fin.ofNat 512 z)))
  s b h d e := EReal.toReal (S (ix4 b h d e))

theorem ofNat_val {n : ℕ} [NeZero n] (x : Fin n) : Fin.ofNat n x.val = x := Fin.ext (Nat.mod_eq_of_lt x.isLt)

/-- A finite value is a real number's. -/
def Finite {ι : Type} (f : ι → EReal) : Prop := ∀ i, f i ≠ ⊤ ∧ f i ≠ ⊥

theorem Finite.coe {ι : Type} {f : ι → EReal} (h : Finite f) (i : ι) : f i = ((EReal.toReal (f i) : ℝ) : EReal) :=
  (EReal.coe_toReal (h i).1 (h i).2).symm

theorem dataOf_held (P : Vec Ideal ⟨3, ![2, 8192, 8192]⟩ .bf16) (L : Vec Ideal ⟨3, ![2, 8192, 128]⟩ .f32) (W : Vec Ideal ⟨3, ![1, 16, 512]⟩ .f32)
    (B : Vec Ideal ⟨2, ![1, 512]⟩ .f32) (S : Vec Ideal ⟨4, ![2, 4, 128, 256]⟩ .f32)
    (hP : Finite P) (hL : Finite L) (hW : Finite W) (hB : Finite B) (hS : Finite S) : (dataOf P L W B S).Held P L W B S where
  p b n z := (hP.coe _).trans (by simp only [dataOf, ofNat_val])
  lr b n x := (hL.coe _).trans (by simp only [dataOf, ofNat_val])
  w x z := (hW.coe _).trans (by simp only [dataOf, ofNat_val])
  b z := (hB.coe _).trans (by simp only [dataOf, ofNat_val])
  s b h d e := hS.coe _

end Gla
end
-- ==== Proof.Ideal.Values.lean ====
module

public import proofs.«01_k».proof.Proof.Ideal.Point
public import proofs.«01_k».proof.Proof.Ideal.Blocks
public import proofs.«01_k».proof.Proof.Ideal.Operands
public import proofs.«01_k».proof.Proof.Ideal.ChunkReal
public import proofs.«01_k».proof.Proof.Gla.Data

/-! The kernel's forward outputs over the reals. -/

@[expose] public section

set_option maxRecDepth 16384

noncomputable section

namespace Cert.KernelIdeal.Gen

open Idealize.ShloMosaic Idealize.ShloMosaic.TcCoe Idealize.SL.Sem

/-! ## The gates -/

theorem named_gate : (Named.named (F := Ideal) κ "log2e_over_tau" (φ := .f32) 0x3DB8AA3B#32 : EReal) = (((Real.log 2)⁻¹ * (1 / 16) : ℝ) : EReal) :=
  IdealRules.named_const.ideal_named_scalar _ _ _ _ rfl

theorem gate_real (z : ℝ) :
    (min (z : EReal) 0 - Ideal.log (1 + Ideal.exp (0 - (FloatOps.absf (F := Ideal) (φ := .f32) (z : EReal) : EReal))))
      * (Named.named (F := Ideal) κ "log2e_over_tau" (φ := .f32) 0x3DB8AA3B#32 : EReal)
      = (((Real.log 2)⁻¹ * (Gla.Data.logSigmoid z / 16) : ℝ) : EReal) := by
  have ha : (FloatOps.absf (F := Ideal) (φ := .f32) (z : EReal) : EReal) = ((|z| : ℝ) : EReal) := by
    rw [Ideal.absf_def]
    rcases le_total 0 z with h | h
    · rw [abs_of_nonneg h, max_eq_left]
      exact_mod_cast (by linarith : -z ≤ z)
    · rw [abs_of_nonpos h, max_eq_right]
      · exact_mod_cast rfl
      · exact_mod_cast (by linarith : z ≤ -z)
  have hm : min (z : EReal) 0 = ((min z 0 : ℝ) : EReal) := by
    rw [← EReal.coe_zero, ← EReal.coe_strictMono.monotone.map_min]
  have h1 : (0 : EReal) - ((|z| : ℝ) : EReal) = ((-|z| : ℝ) : EReal) := by
    rw [← EReal.coe_zero, ← EReal.coe_sub, zero_sub]
  have hp : 0 < 1 + Real.exp (-|z|) := by positivity
  rw [named_gate, ha, hm, h1, Ideal.exp_coe, ← EReal.coe_one, ← EReal.coe_add, Ideal.log_coe, if_neg hp.not_ge, ← EReal.coe_sub, ← EReal.coe_mul]
  congr 1
  unfold Gla.Data.logSigmoid
  ring

theorem logit_real (L : Fin 128 → ℝ) (W : Fin 16 → ℝ) (B : ℝ) :
    (∑ x : Fin 128, (L x : EReal) * (if h : x.val < 16 then ((W ⟨x.val, h⟩ : ℝ) : EReal) else 0)) + (B : EReal)
      = (((∑ x : Fin 16, L ⟨x.val, by omega⟩ * W x) + B : ℝ) : EReal) := by
  have e : ∀ x : Fin 128, (L x : EReal) * (if h : x.val < 16 then ((W ⟨x.val, h⟩ : ℝ) : EReal) else 0)
      = ((if h : x.val < 16 then L x * W ⟨x.val, h⟩ else 0 : ℝ) : EReal) := by
    intro x
    split <;> simp
  rw [Finset.sum_congr rfl fun x _ => e x, ← Chunk.coe_sum, ← EReal.coe_add]
  congr 2
  rw [Fin.sum_univ_eq_sum_range (fun x => if h : x < 16 then L ⟨x, by omega⟩ * W ⟨x, h⟩ else 0 : ℕ → ℝ) 128]
  rw [← Finset.sum_subset (Finset.range_subset_range.mpr (show 16 ≤ 128 by omega)) (fun x _ h => dif_neg (by simpa using h)), ← Fin.sum_univ_eq_sum_range]
  exact Finset.sum_congr rfl fun x _ => dif_pos x.isLt

theorem gates_real (lr : Vec Ideal S1x128x128 .f32) (w : Vec Ideal S128x512 .bf16) (b : Vec Ideal S1x512 .f32) (r : Fin 128) (z : Fin 512)
    (L : Fin 128 → ℝ) (W : Fin 16 → ℝ) (B : ℝ) (hl : ∀ x, lr (ix3 0 r x) = (L x : EReal))
    (hw : ∀ x : Fin 128, w (ix2 x z) = if h : x.val < 16 then ((W ⟨x.val, h⟩ : ℝ) : EReal) else 0) (hb : b (ix2 0 z) = (B : EReal)) :
    Chunk.gates lr w b (ix2 r z) = (((Real.log 2)⁻¹ * (Gla.Data.logSigmoid ((∑ x : Fin 16, L ⟨x.val, by omega⟩ * W x) + B) / 16) : ℝ) : EReal) := by
  rw [← gate_real, ← logit_real]
  simp only [← hl, ← hw, ← hb]
  unfold Chunk.gates
  pointwise

variable (m : (ℓ : Loc nD τ sig) → Buf (Elt Ideal) ℓ) (c : Dev nD)

/-- The arguments hold the numbers of `D`. -/
abbrev Reads (D : Gla.Data) : Prop :=
  D.Held (m ((c : Thread nD τ).loc main_arg0)) (m ((c : Thread nD τ).loc main_arg1)) (m ((c : Thread nD τ).loc main_arg2))
    (m ((c : Thread nD τ).loc main_arg3)) (m ((c : Thread nD τ).loc main_arg6))

variable {m c} {D : Gla.Data} (H : Reads m c D)
include H

/-- The tiles of a point hold the numbers from its first position on, given what its heads' states are. -/
theorem holds (t : Fin cfg0.N) (s : Fin 4 → FVec Ideal S128x256 .f32)
    (hs : ∀ h (d : Fin 128) (e : Fin 256), s h (ix2 d e)
      = ((Gla.st (D.a (rowOf t) h d) (D.k (rowOf t) h d) (D.v (rowOf t) h e) (D.s (rowOf t) h d e) (512 * (t.val % 16)) : ℝ) : EReal)) :
    Chunk.Holds (tilesAt m c t s) (D.q (rowOf t)) (D.k (rowOf t)) (D.a (rowOf t)) (D.v (rowOf t)) (D.s (rowOf t)) (512 * (t.val % 16)) where
  hq j h r d := by
    refine (Chunk.loaded_q ..).trans ((iblk_0 m c t _ _).trans ((H.p _ _ _).trans ?_))
    simp only [Gla.Data.q, posOf, Nat.add_assoc]
  hk j h r d := by
    refine (Chunk.loaded_k ..).trans ((iblk_0 m c t _ _).trans ((H.p _ _ _).trans ?_))
    simp only [Gla.Data.k, posOf, Nat.add_assoc]
  hv j h r e := by
    refine (Chunk.loaded_v ..).trans ((iblk_1 m c t _ _).trans ((H.p _ _ _).trans ?_))
    simp only [Gla.Data.v, posOf, Nat.add_assoc]
  hg j h r d := by
    refine (gates_real _ _ _ r _ (fun x => D.lr (rowOf t) (512 * (t.val % 16) + (128 * j.val + r.val)) x.val)
      (fun x => D.w x.val (128 * h.val + d.val)) (D.b (128 * h.val + d.val)) ?_ ?_ ?_).trans ?_
    · intro x
      exact (Chunk.loaded_lr ..).trans ((iblk_2 m c t _ _).trans (H.lr _ _ _))
    · intro x
      refine (Chunk.loaded_w ..).trans ((iblk_6 m c t _ _).trans ((V_weights m c x _).trans ?_))
      split
      · exact H.w _ _
      · rfl
    · exact (Chunk.loaded_b ..).trans ((iblk_7 m c t _).trans ((V_bias m c _).trans (H.b _)))
    · simp only [Gla.Data.a, Gla.Data.logit, Nat.add_assoc]
  hs := hs

/-- Before each point the forward half of the scratch holds the states of its batch row after the positions before it,
    unless the point is its row's first. -/
theorem scratch : ∀ (n : ℕ) (hn : n < cfg0.N), n % 16 ≠ 0 → ∀ (h : Fin 4) (d : Fin 128) (e : Fin 256),
    (scr m c n : Vec Ideal S2x4x128x256 .f32) (ix4 0 h d e)
      = ((Gla.st (D.a (rowOf ⟨n, hn⟩) h d) (D.k (rowOf ⟨n, hn⟩) h d) (D.v (rowOf ⟨n, hn⟩) h e) (D.s (rowOf ⟨n, hn⟩) h d e) (512 * (n % 16)) : ℝ) : EReal)
  | 0, _, h0 => absurd rfl h0
  | n + 1, hn, h0 => by
    intro h d e
    have hn' : n < cfg0.N := by omega
    obtain ⟨s, hL⟩ := leaves m c ⟨n, hn'⟩ (scr m c n)
    have hs : ∀ h (d : Fin 128) (e : Fin 256), s h (ix2 d e)
        = ((Gla.st (D.a (rowOf ⟨n, hn'⟩) h d) (D.k (rowOf ⟨n, hn'⟩) h d) (D.v (rowOf ⟨n, hn'⟩) h e) (D.s (rowOf ⟨n, hn'⟩) h d e) (512 * (n % 16)) : ℝ) : EReal) := by
      intro h d e
      rw [hL.start]
      split
      · next hz =>
        rw [show n % 16 = 0 from hz]
        exact (iblk_10 m c ⟨n, hn'⟩ h d e).trans (H.s _ _ _ _)
      · next hz => exact scratch n hn' hz h d e
    have hr : rowOf ⟨n + 1, hn⟩ = rowOf ⟨n, hn'⟩ := Fin.ext (show (n + 1) / 16 = n / 16 by omega)
    have hp : 512 * ((n + 1) % 16) = 512 * (n % 16) + 128 * 4 := by omega
    rw [hr, hp]
    refine (congrFun (scr_succ m c ⟨n, hn'⟩) _).trans ?_
    exact (hL.state h d e).trans ((holds H ⟨n, hn'⟩ s hs).state h d e 4 (le_refl _))

/-- What a point leaves in the forward output's block. -/
theorem block_value (t : Fin cfg0.N) (j h : Fin 4) (r : Fin 128) (e : Fin 256) :
    left16 (storesAt m c t) (ix3 0 ⟨128 * j.val + r.val, by omega⟩ ⟨256 * h.val + e.val, by omega⟩)
      = ((D.out (rowOf t) (512 * (t.val % 16) + (128 * j.val + r.val)) h e : ℝ) : EReal) := by
  obtain ⟨s, hL⟩ := leaves m c t (scr m c t.val)
  refine (hL.output j h r e).trans (((holds H t s ?_).output j h r e).trans ?_)
  · intro h d e
    rw [hL.start]
    split
    · next hz =>
      rw [hz]
      exact (iblk_10 m c t h d e).trans (H.s _ _ _ _)
    · next hz => exact scratch H t.val t.isLt hz h d e
  · simp only [Gla.Data.out, Nat.add_assoc]

end Cert.KernelIdeal.Gen
end
-- ==== Proof.Ideal.Output.lean ====
module

public import proofs.«01_k».proof.Proof.Ideal.Values
public import Idealize.ShloMosaic.Lib.Claim
public import Idealize.ShloMosaic.Lib.Pipeline.ValueKit

/-! The forward output after the run. -/

@[expose] public section

set_option maxRecDepth 16384

noncomputable section

namespace Cert.KernelIdeal.Gen

open Idealize.ShloMosaic Idealize.ShloMosaic.TcCoe Idealize.SL.Sem

variable {m : (ℓ : Loc nD τ sig) → Buf (Elt Ideal) ℓ} {c : Dev nD} {D : Gla.Data} (H : Reads m c D)
include H

/-- A block of the result by its own rows and columns. -/
theorem block_result (t : Fin cfg0.N) (r : Fin 512) (z : Fin 1024) :
    left16 (storesAt m c t) (ix3 0 r z) = D.result (ix3 (rowOf t) (posOf t r) z) := by
  have hv := block_value H t ⟨r.val / 128, by omega⟩ ⟨z.val / 256, by omega⟩ ⟨r.val % 128, by omega⟩ ⟨z.val % 256, by omega⟩
  have hr : (⟨128 * (r.val / 128) + r.val % 128, by omega⟩ : Fin 512) = r := Fin.ext (by simp only; omega)
  have hz : (⟨256 * (z.val / 256) + z.val % 256, by omega⟩ : Fin 1024) = z := Fin.ext (by simp only; omega)
  have hr' : 128 * (r.val / 128) + r.val % 128 = r.val := by omega
  simp only [hr, hz, hr'] at hv
  exact hv

theorem output : (dats m 0 c).arrAt 16 cfg0.N = D.result := by
  refine (dats m 0 c).arrAt_eq_of_covers 16 _ (by decide +kernel) fun t hf y => ?_
  blk_simp
  rw [after0_16]
  have hi := index_16 t
  have hy : ∀ x : S1x512x1024.Idx, left16 (storesAt m c t) x = D.result ((win0_16.blk t).view.emb x) := by
    intro x
    have e : x = ix3 0 (x 1) (x 2) := by
      funext a
      match a with
      | ⟨0, _⟩ => exact Fin.ext (by have : (x 0).val < 1 := (x 0).isLt; show (x 0).val = 0; omega)
      | ⟨1, _⟩ => rfl
      | ⟨2, _⟩ => rfl
    refine (congrArg _ e).trans ((block_result H t (x 1) (x 2)).trans (congrArg D.result ?_))
    funext a
    apply Fin.ext
    match a with
    | ⟨0, _⟩ =>
      have h0 : (x 0).val < 1 := (x 0).isLt
      show t.val / 16 = win0_16.index t 0 * 1 + 1 * (x 0).val
      rw [hi.1]; omega
    | ⟨1, _⟩ => show 512 * (t.val % 16) + (x 1).val = win0_16.index t 1 * 512 + 1 * (x 1).val; rw [hi.2.1]; omega
    | ⟨2, _⟩ => show (x 2).val = win0_16.index t 2 * 1024 + 1 * (x 2).val; rw [hi.2.2]; omega
  exact hy y

end Cert.KernelIdeal.Gen
end
-- ==== Proof.Host.Loop.lean ====
module

public import proofs.«01_k».proof.Proof.Gen.ReferenceIdeal.Run
public import Idealize.ShloMosaic.Lib.Pointwise
public import Idealize.ShloMosaic.Lib.DynamicIndex
public import Idealize.ShloMosaic.Lib.WordCmp
public import proofs.«01_k».proof.Proof.Gla.Recurrence

/-! The reference's loop: a trip is one step of the recurrence. -/

@[expose] public section

noncomputable section

namespace Cert.ReferenceIdeal.Value

open Idealize.ShloMosaic Idealize.ShloMosaic.TcCoe Idealize.SL.Sem
open Cert.ReferenceIdeal.Gen

/-! What the loop carries: the queries, keys, values and gates of every position, the counter, the state, and the outputs. -/

abbrev cq (X : Valuation τ sig (Elt Ideal)) : Vec Ideal S8192x2x4x128 .f32 := X (Proc.devRef .tc main_v28_0)
abbrev ck (X : Valuation τ sig (Elt Ideal)) : Vec Ideal S8192x2x4x128 .f32 := X (Proc.devRef .tc main_v28_1)
abbrev cv (X : Valuation τ sig (Elt Ideal)) : Vec Ideal S8192x2x4x256 .f32 := X (Proc.devRef .tc main_v28_2)
abbrev ca (X : Valuation τ sig (Elt Ideal)) : Vec Ideal S8192x2x4x128 .f32 := X (Proc.devRef .tc main_v28_3)
abbrev cn (X : Valuation τ sig (Elt Ideal)) : IVec S_ 32 := X (Proc.devRef .tc main_v28_4)
abbrev cs (X : Valuation τ sig (Elt Ideal)) : Vec Ideal S2x4x128x256 .f32 := X (Proc.devRef .tc main_v28_5)
abbrev co (X : Valuation τ sig (Elt Ideal)) : Vec Ideal S8192x2x4x256 .f32 := X (Proc.devRef .tc main_v28_6)

/-- The state after a trip. -/
abbrev state (X : Valuation τ sig (Elt Ideal)) : Vec Ideal S2x4x128x256 .f32 := res_main_while0b_v45 X

theorem slices_n (k : Fin 8192) : S8192x2x4x128.Slices ![k.val, 0, 0, 0] S1x2x4x128 := by
  refine ⟨rfl, fun a => ?_⟩
  fin_cases a <;> simp [Shape.size] <;> omega

theorem slices_v (k : Fin 8192) : S8192x2x4x256.Slices ![k.val, 0, 0, 0] S1x2x4x256 := by
  refine ⟨rfl, fun a => ?_⟩
  fin_cases a <;> simp [Shape.size] <;> omega

theorem starts (k : Fin 8192) (C : IVec S_ 32) (hC : C = fun _ => BitVec.ofNat 32 k.val) (a : Fin 4) :
    ((![C, constantI S_ 32 0#32, constantI S_ 32 0#32, constantI S_ 32 0#32] : Fin 4 → (⟨S_, .i32⟩ : BufTy).Contents (Elt Ideal)) a (Shape.Idx.first h_S_)).toInt
      = ((![k.val, 0, 0, 0] : Fin 4 → ℕ) a : ℤ) := by
  subst hC
  fin_cases a
  · exact toInt_ofNat_of_lt (by omega)
  all_goals rfl

/-- The loop's counter as the starts of a slice of one position. -/
abbrev startOf (C : IVec S_ 32) : Fin 4 → ℤ :=
  fun k => ((![C, constantI S_ 32 0#32, constantI S_ 32 0#32, constantI S_ 32 0#32] : Fin 4 → (⟨S_, .i32⟩ : BufTy).Contents (Elt Ideal)) k (Shape.Idx.first h_S_)).toInt

/-- One position's entries. -/
def pick (x : Vec Ideal S8192x2x4x128 .f32) (C : IVec S_ 32) : Vec Ideal S2x4x128 .f32 :=
  shapeCast S2x4x128 (Host.dynamicSlice S1x2x4x128 x (startOf C) sliceFits_S8192x2x4x128_S1x2x4x128) shapeCasts_S1x2x4x128_S2x4x128
def pickV (x : Vec Ideal S8192x2x4x256 .f32) (C : IVec S_ 32) : Vec Ideal S2x4x256 .f32 :=
  shapeCast S2x4x256 (Host.dynamicSlice S1x2x4x256 x (startOf C) sliceFits_S8192x2x4x256_S1x2x4x256) shapeCasts_S1x2x4x256_S2x4x256

/-- A column of every lane. -/
def lanes (x : FVec Ideal S2x4x128 .f32) : FVec Ideal S2x4x128x256 .f32 :=
  broadcastInDim S2x4x128x256 ![0, 1, 2, 3] bcast_S2x4x128x1_S2x4x128x256_0_1_2_3 (broadcastInDim S2x4x128x1 ![0, 1, 2] bcast_S2x4x128_S2x4x128x1_0_1_2 x)
def rows (x : FVec Ideal S2x4x256 .f32) : FVec Ideal S2x4x128x256 .f32 :=
  broadcastInDim S2x4x128x256 ![0, 1, 2, 3] bcast_S2x4x1x256_S2x4x128x256_0_1_2_3 (broadcastInDim S2x4x1x256 ![0, 1, 3] bcast_S2x4x256_S2x4x1x256_0_1_3 x)

def newState (a k : FVec Ideal S2x4x128 .f32) (v : FVec Ideal S2x4x256 .f32) (s : FVec Ideal S2x4x128x256 .f32) : FVec Ideal S2x4x128x256 .f32 :=
  addf (mulf (lanes (Host.exp a)) s) (mulf (lanes k) (rows v))

def newOut (q : FVec Ideal S2x4x128 .f32) (s : FVec Ideal S2x4x128x256 .f32) : FVec Ideal S1x2x4x256 .f32 :=
  broadcastInDim S1x2x4x256 ![1, 2, 3] bcast_S2x4x256_S1x2x4x256_1_2_3
    (Host.reduceAdd (mulf (lanes q) s) (constant S_ .f32 0x00000000#32) reducesTo_S2x4x128x256_S2x4x256_d2 h_S_)

theorem pick_apply (x : Vec Ideal S8192x2x4x128 .f32) (k : Fin 8192) (b : Fin 2) (h : Fin 4) (d : Fin 128) :
    pick x (fun _ => BitVec.ofNat 32 k.val) (ix3 b h d) = x (ix4 k b h d) := by
  unfold pick startOf
  rw [WordCmp.dynamicSlice_eq_extract _ _ _ _ _ (slices_n k) (starts k _ rfl)]
  pointwise

theorem pickV_apply (x : Vec Ideal S8192x2x4x256 .f32) (k : Fin 8192) (b : Fin 2) (h : Fin 4) (d : Fin 256) :
    pickV x (fun _ => BitVec.ofNat 32 k.val) (ix3 b h d) = x (ix4 k b h d) := by
  unfold pickV startOf
  rw [WordCmp.dynamicSlice_eq_extract _ _ _ _ _ (slices_v k) (starts k _ rfl)]
  pointwise

theorem newState_apply (a k : FVec Ideal S2x4x128 .f32) (v : FVec Ideal S2x4x256 .f32) (s : FVec Ideal S2x4x128x256 .f32)
    (b : Fin 2) (h : Fin 4) (d : Fin 128) (e : Fin 256) :
    newState a k v s (ix4 b h d e) = Ideal.exp (a (ix3 b h d)) * s (ix4 b h d e) + k (ix3 b h d) * v (ix3 b h e) := by
  pointwise [newState, lanes, rows]

theorem newOut_apply (q : FVec Ideal S2x4x128 .f32) (s : FVec Ideal S2x4x128x256 .f32)
    (b : Fin 2) (h : Fin 4) (e : Fin 256) :
    newOut q s (ix4 0 b h e) = ∑ d : Fin 128, q (ix3 b h d) * s (ix4 b h d e) := by
  pointwise [newOut, lanes]

theorem put_apply (x : Vec Ideal S8192x2x4x256 .f32) (u : FVec Ideal S1x2x4x256 .f32) (k n : Fin 8192) (b : Fin 2) (h : Fin 4) (e : Fin 256) :
    Host.dynamicUpdateSlice x u (startOf (fun _ => BitVec.ofNat 32 k.val)) updateFits_S8192x2x4x256_S1x2x4x256 (ix4 n b h e)
      = if n = k then u (ix4 0 b h e) else x (ix4 n b h e) := by
  unfold startOf
  rw [WordCmp.dynamicUpdateSlice_eq_update _ _ _ _ _ (slices_v k) (starts k _ rfl)]
  pointwise
  split_ifs with h1 h2 h2
  · subst h2; congr 1; exact congrArg (fun z => ix4 z b h e) (Fin.ext (by simp))
  · exact absurd (Fin.ext (by omega)) h2
  · subst h2; exact absurd ⟨le_refl _, by omega⟩ h1
  · rfl

theorem step_state (X : Valuation τ sig (Elt Ideal)) : step_main_v28_5 X = newState (pick (ca X) (cn X)) (pick (ck X) (cn X)) (pickV (cv X) (cn X)) (cs X) := rfl

set_option maxHeartbeats 2000000 in
theorem step_out (X : Valuation τ sig (Elt Ideal)) : step_main_v28_6 X
    = Host.dynamicUpdateSlice (co X) (newOut (pick (cq X) (cn X)) (newState (pick (ca X) (cn X)) (pick (ck X) (cn X)) (pickV (cv X) (cn X)) (cs X)))
      (startOf (cn X)) updateFits_S8192x2x4x256_S1x2x4x256 := rfl

/-- After `k` trips: the counter is `k`, the state is the recurrence's, and so is the output at every position before `k`. -/
structure At (X : Valuation τ sig (Elt Ideal)) (q kk : Fin 2 → Fin 4 → Fin 128 → ℕ → ℝ) (v : Fin 2 → Fin 4 → Fin 256 → ℕ → ℝ)
    (a : Fin 2 → Fin 4 → Fin 128 → ℕ → ℝ) (s0 : Fin 2 → Fin 4 → Fin 128 → Fin 256 → ℝ) (k : ℕ) : Prop where
  at_q : ∀ (n : Fin 8192) b h d, cq X (ix4 n b h d) = (q b h d n : EReal)
  at_kk : ∀ (n : Fin 8192) b h d, ck X (ix4 n b h d) = (kk b h d n : EReal)
  at_v : ∀ (n : Fin 8192) b h e, cv X (ix4 n b h e) = (v b h e n : EReal)
  at_a : ∀ (n : Fin 8192) b h d, ca X (ix4 n b h d) = (a b h d n : EReal)
  at_n : cn X = fun _ => BitVec.ofNat 32 k
  at_s : ∀ b h d e, cs X (ix4 b h d e) = (Gla.st (a b h d) (kk b h d) (v b h e) (s0 b h d e) k : EReal)
  at_o : ∀ (n : Fin 8192) b h e, n.val < k → co X (ix4 n b h e)
      = ((∑ d, q b h d n * Gla.st (a b h d) (kk b h d) (v b h e) (s0 b h d e) (n + 1) : ℝ) : EReal)

theorem coe_sum {ι : Type*} (s : Finset ι) (f : ι → ℝ) : ((∑ i ∈ s, f i : ℝ) : EReal) = ∑ i ∈ s, (f i : EReal) := by
  classical
  induction s using Finset.induction_on with
  | empty => simp
  | insert a s h ih => rw [Finset.sum_insert h, Finset.sum_insert h, EReal.coe_add, ih]

variable {X : Valuation τ sig (Elt Ideal)} {q kk : Fin 2 → Fin 4 → Fin 128 → ℕ → ℝ} {v : Fin 2 → Fin 4 → Fin 256 → ℕ → ℝ}
  {a : Fin 2 → Fin 4 → Fin 128 → ℕ → ℝ} {s0 : Fin 2 → Fin 4 → Fin 128 → Fin 256 → ℝ}

theorem At.step {k : ℕ} (H : At X q kk v a s0 k) (hk : k < 8192) : At (STEP X) q kk v a s0 (k + 1) := by
  have hn : cn X = fun _ => BitVec.ofNat 32 (⟨k, hk⟩ : Fin 8192).val := H.at_n
  have hs : ∀ b h d e, newState (pick (ca X) (cn X)) (pick (ck X) (cn X)) (pickV (cv X) (cn X)) (cs X) (ix4 b h d e)
      = (Gla.st (a b h d) (kk b h d) (v b h e) (s0 b h d e) (k + 1) : EReal) := by
    intro b h d e
    rw [newState_apply, hn, pick_apply, pick_apply, pickV_apply, H.at_a, H.at_kk, H.at_v, H.at_s, Gla.st, Ideal.exp_coe, EReal.coe_add, EReal.coe_mul, EReal.coe_mul]
  refine ⟨?_, ?_, ?_, ?_, ?_, ?_, ?_⟩
  · intro n b h d; exact (congrFun (STEP_main_v28_0 X) _).trans (H.at_q n b h d)
  · intro n b h d; exact (congrFun (STEP_main_v28_1 X) _).trans (H.at_kk n b h d)
  · intro n b h d; exact (congrFun (STEP_main_v28_2 X) _).trans (H.at_v n b h d)
  · intro n b h d; exact (congrFun (STEP_main_v28_3 X) _).trans (H.at_a n b h d)
  · refine (STEP_main_v28_4 X).trans ?_
    show addi (cn X) (constantI S_ 32 1#32) = _
    rw [H.at_n]
    funext i
    exact (BitVec.ofNat_add k 1).symm
  · intro b h d e
    exact (congrFun ((STEP_main_v28_5 X).trans (step_state X)) _).trans (hs b h d e)
  · intro n b h e hlt
    refine (congrFun ((STEP_main_v28_6 X).trans (step_out X)) _).trans ?_
    rw [show startOf (cn X) = startOf (fun _ => BitVec.ofNat 32 (⟨k, hk⟩ : Fin 8192).val) from congrArg startOf hn, put_apply]
    split_ifs with hnk
    · subst hnk
      have key : newOut (pick (cq X) (cn X)) (newState (pick (ca X) (cn X)) (pick (ck X) (cn X)) (pickV (cv X) (cn X)) (cs X)) (ix4 0 b h e)
          = ((∑ d, q b h d k * Gla.st (a b h d) (kk b h d) (v b h e) (s0 b h d e) (k + 1) : ℝ) : EReal) := by
        rw [newOut_apply, coe_sum]
        refine Finset.sum_congr rfl fun d _ => ?_
        rw [hs, hn, pick_apply, H.at_q, EReal.coe_mul]
      exact key
    · exact H.at_o n b h e (by rcases Nat.lt_succ_iff_lt_or_eq.1 hlt with h | h; exact h; exact absurd (Fin.ext h) hnk)

theorem At.iter (H : At X q kk v a s0 0) : ∀ k, k ≤ 8192 → At (STEP^[k] X) q kk v a s0 k
  | 0, _ => H
  | k + 1, h => by rw [Function.iterate_succ_apply']; exact (At.iter H k (by omega)).step (by omega)

/-- The result off what the loop leaves. -/
theorem result_apply (X : Valuation τ sig (Elt Ideal)) (b : Fin 2) (n : Fin 8192) (h : Fin 4) (e : Fin 256) :
    (out_main_v31 X : Vec Ideal S2x8192x1024 .bf16) (ix3 b n ⟨256 * h.val + e.val, by omega⟩) = co X (ix4 n b h e) := by
  unfold out_main_v31
  show shapeCast S2x8192x1024 (transpose S2x8192x4x256 [1, 0, 2, 3] (co X) transposes_S8192x2x4x256_S2x8192x4x256_1_0_2_3) shapeCasts_S2x8192x4x256_S2x8192x1024 _ = _
  pointwise

end Cert.ReferenceIdeal.Value

end
-- ==== Proof.Host.Entry.lean ====
module

public import proofs.«01_k».proof.Proof.Host.Loop
public import proofs.«01_k».proof.Proof.Gla.Data
public import Idealize.ShloMosaic.Lib.StableHlo.ReadAt

/-! What the reference's loop starts from, over the reals. -/

@[expose] public section

noncomputable section

namespace Cert.ReferenceIdeal.Value

open Idealize.ShloMosaic Idealize.ShloMosaic.TcCoe Idealize.SL.Sem
open Idealize.ShloMosaic.StableHlo Cert.ReferenceIdeal.Gen

theorem bits_128 : Ideal.ofBits .f32 1124073472#32 = ((128 : ℝ) : EReal) := by
  simp [Ideal.ofBits, Ideal.ieee, -EReal.coe_mul]; norm_num

theorem bits_16 : Ideal.ofBits .f32 1098907648#32 = ((16 : ℝ) : EReal) := by
  simp [Ideal.ofBits, Ideal.ieee, -EReal.coe_mul]; norm_num

theorem scaled_real (z : ℝ) : Ideal.div (z : EReal) (Ideal.sqrt (Ideal.ofBits .f32 1124073472#32)) = ((z * (Real.sqrt 128)⁻¹ : ℝ) : EReal) := by
  have h : Real.sqrt 128 ≠ 0 := (Real.sqrt_pos.mpr (by norm_num)).ne'
  rw [bits_128, Ideal.sqrt_coe, if_neg (by norm_num), Ideal.div_coe h, ← EReal.coe_mul, one_div]

theorem logSigmoid_real (z : ℝ) :
    Ideal.div (-if -(z : EReal) ≠ -(z : EReal) then -(z : EReal) else
        max (-(z : EReal)) 0 + Ideal.log1p (Ideal.exp (-(FloatOps.absf (F := Ideal) (φ := .f32) (-(z : EReal)) : EReal))))
      (Ideal.ofBits .f32 1098907648#32) = ((Gla.Data.logSigmoid z / 16 : ℝ) : EReal) := by
  have ha : (FloatOps.absf (F := Ideal) (φ := .f32) (-(z : EReal)) : EReal) = ((|z| : ℝ) : EReal) := by
    rw [Ideal.absf_def, neg_neg]
    rcases le_total 0 z with h | h
    · rw [abs_of_nonneg h, max_eq_right]
      exact_mod_cast (by linarith : -z ≤ z)
    · rw [abs_of_nonpos h, max_eq_left]
      · exact_mod_cast rfl
      · exact_mod_cast (by linarith : z ≤ -z)
  have hm : max (-(z : EReal)) 0 = ((max (-z) 0 : ℝ) : EReal) := by
    rw [← EReal.coe_zero, ← EReal.coe_neg, ← EReal.coe_strictMono.monotone.map_max]
  have hp : 0 < 1 + Real.exp (-|z|) := by positivity
  have hz : min z 0 = -max (-z) 0 := by rw [← min_neg_neg, neg_neg, neg_zero]
  rw [if_neg (by simp), ha, hm, bits_16, Ideal.div_coe (by norm_num), ← EReal.coe_neg, Ideal.exp_coe, Ideal.log1p, ← EReal.coe_one, ← EReal.coe_add,
    Ideal.log_coe, if_neg hp.not_ge, ← EReal.coe_add, ← EReal.coe_neg, ← EReal.coe_mul]
  congr 1
  unfold Gla.Data.logSigmoid
  rw [hz]
  ring

variable (m : (ℓ : Loc nD τ sig) → Buf (Elt Ideal) ℓ) (c : Dev nD)

abbrev entry : Valuation τ sig (Elt Ideal) := entryContents preI m c

theorem entry_n : cn (entry m c) = fun _ => BitVec.ofNat 32 0 := ctr_entry m c

theorem entry_s (b h d e) : cs (entry m c) (ix4 b h d e) = (m ((c : Thread nD τ).loc main_arg6) : Vec Ideal S2x4x128x256 .f32) (ix4 b h d e) := by
  simp only [entry, entryContents, afterL_cons, afterL_nil]
  after_reads_at
  rfl

theorem entry_v (n : Fin 8192) (b : Fin 2) (h : Fin 4) (e : Fin 256) : cv (entry m c) (ix4 n b h e)
    = (m ((c : Thread nD τ).loc main_arg0) : Vec Ideal S2x8192x8192 .bf16) (ix3 b n ⟨1024 + (h.val * 256 + e.val), by omega⟩) := by
  simp only [entry, entryContents, afterL_cons, afterL_nil]
  after_reads_at
  dsimp only [id]
  pointwise

theorem entry_k (n : Fin 8192) (b : Fin 2) (h : Fin 4) (e : Fin 128) : ck (entry m c) (ix4 n b h e)
    = (m ((c : Thread nD τ).loc main_arg0) : Vec Ideal S2x8192x8192 .bf16) (ix3 b n ⟨512 + (h.val * 128 + e.val), by omega⟩) := by
  simp only [entry, entryContents, afterL_cons, afterL_nil]
  after_reads_at
  dsimp only [id]
  pointwise

theorem entry_q (n : Fin 8192) (b : Fin 2) (h : Fin 4) (e : Fin 128) : cq (entry m c) (ix4 n b h e)
    = Ideal.div ((m ((c : Thread nD τ).loc main_arg0) : Vec Ideal S2x8192x8192 .bf16) (ix3 b n ⟨h.val * 128 + e.val, by omega⟩))
      (Ideal.sqrt (Ideal.ofBits .f32 1124073472#32)) := by
  simp only [entry, entryContents, afterL_cons, afterL_nil]
  after_reads_at
  dsimp only [id]
  pointwise

/-- A gate's logit as the reference adds it. -/
def logitOf (L : Vec Ideal S2x8192x128 .f32) (W : Vec Ideal S1x16x512 .f32) (B : Vec Ideal S1x512 .f32) (n : Fin 8192) (b : Fin 2) (h : Fin 4) (e : Fin 128) : EReal :=
  (∑ x : Fin 16, L (ix3 b n ⟨x.val, by omega⟩) * W (ix3 0 x ⟨h.val * 128 + e.val, by omega⟩)) + B (ix2 0 ⟨h.val * 128 + e.val, by omega⟩)

theorem logitOf_real {D : Gla.Data} (L : Vec Ideal S2x8192x128 .f32) (W : Vec Ideal S1x16x512 .f32) (B : Vec Ideal S1x512 .f32) (n : Fin 8192) (b : Fin 2) (h : Fin 4) (e : Fin 128)
    (hL : ∀ x : Fin 128, L (ix3 b n x) = ((D.lr b n.val x.val : ℝ) : EReal)) (hW : ∀ (x : Fin 16) (z : Fin 512), W (ix3 0 x z) = ((D.w x.val z.val : ℝ) : EReal))
    (hB : ∀ z : Fin 512, B (ix2 0 z) = ((D.b z.val : ℝ) : EReal)) : logitOf L W B n b h e = ((D.logit b h e n.val : ℝ) : EReal) := by
  unfold logitOf
  simp only [hL, hW, hB]
  simp only [← EReal.coe_mul, ← coe_sum, ← EReal.coe_add, Gla.Data.logit, Nat.mul_comm 128]

abbrev logitAt (n : Fin 8192) (b : Fin 2) (h : Fin 4) (e : Fin 128) : EReal :=
  logitOf (m ((c : Thread nD τ).loc main_arg1)) (m ((c : Thread nD τ).loc main_arg2)) (m ((c : Thread nD τ).loc main_arg3)) n b h e

theorem entry_a (n : Fin 8192) (b : Fin 2) (h : Fin 4) (e : Fin 128) : ca (entry m c) (ix4 n b h e)
    = Ideal.div (-if -logitAt m c n b h e ≠ -logitAt m c n b h e then -logitAt m c n b h e else
        max (-logitAt m c n b h e) 0 + Ideal.log1p (Ideal.exp (-(FloatOps.absf (F := Ideal) (φ := .f32) (-logitAt m c n b h e) : EReal))))
      (Ideal.ofBits .f32 1098907648#32) := by
  simp only [entry, entryContents, afterL_cons, afterL_nil]
  after_reads_at
  dsimp only [id]
  pointwise
  rfl

variable {m c} {D : Gla.Data} (H : D.Held (m ((c : Thread nD τ).loc main_arg0)) (m ((c : Thread nD τ).loc main_arg1))
  (m ((c : Thread nD τ).loc main_arg2)) (m ((c : Thread nD τ).loc main_arg3)) (m ((c : Thread nD τ).loc main_arg6)))
include H

theorem logit_real (n : Fin 8192) (b : Fin 2) (h : Fin 4) (e : Fin 128) : logitAt m c n b h e = ((D.logit b h e n.val : ℝ) : EReal) :=
  logitOf_real _ _ _ n b h e (H.lr b n) H.w H.b

theorem at_zero : At (entry m c) (fun b h d n => D.q b h d n * (Real.sqrt 128)⁻¹) D.k D.v D.a D.s 0 where
  at_q n b h d := by
    refine (entry_q m c n b h d).trans ((congrArg (Ideal.div · _) (H.p _ _ _)).trans ((scaled_real _).trans ?_))
    simp only [Gla.Data.q, Nat.mul_comm 128]
  at_kk n b h d := by
    refine (entry_k m c n b h d).trans ((H.p _ _ _).trans ?_)
    simp only [Gla.Data.k, Nat.mul_comm 128, Nat.add_assoc]
  at_v n b h e := by
    refine (entry_v m c n b h e).trans ((H.p _ _ _).trans ?_)
    simp only [Gla.Data.v, Nat.mul_comm 256, Nat.add_assoc]
  at_a n b h d := by
    rw [entry_a, logit_real H]
    exact logSigmoid_real _
  at_n := entry_n m c
  at_s b h d e := (entry_s m c b h d e).trans (H.s b h d e)
  at_o n b h e hn := absurd hn (Nat.not_lt_zero _)

/-- The reference's result. -/
theorem result_real : (out_main_v31 (STEP^[8192] (entry m c)) : Vec Ideal S2x8192x1024 .bf16) = D.result := by
  funext i
  have hz : (i 2).val < 1024 := (i 2).isLt
  have e : i = ix3 (i 0) (i 1) ⟨256 * ((i 2).val / 256) + (i 2).val % 256, by omega⟩ := by
    funext a
    match a with
    | ⟨0, _⟩ => rfl
    | ⟨1, _⟩ => rfl
    | ⟨2, _⟩ => exact Fin.ext (by show (i 2).val = 256 * ((i 2).val / 256) + (i 2).val % 256; omega)
  refine (congrArg _ e).trans ((result_apply _ (i 0) (i 1) ⟨(i 2).val / 256, by omega⟩ ⟨(i 2).val % 256, by omega⟩).trans ?_)
  exact ((at_zero H).iter 8192 (le_refl _)).at_o (i 1) (i 0) _ _ (i 1).isLt

end Cert.ReferenceIdeal.Value
end
-- ==== Proof.Forward.lean ====
module

public import proofs.«01_k».proof.Defs
public import proofs.«01_k».proof.Proof.Ideal.Output
public import proofs.«01_k».proof.Proof.Host.Entry
public import Idealize.ShloMosaic.Lib.Claim

/-! The kernel's forward output is the reference's. -/

@[expose] public section

set_option maxRecDepth 16384

noncomputable section

namespace Cert.Forward

open Idealize.ShloMosaic Idealize.ShloMosaic.TcCoe Idealize.SL.Sem

/-- The facts the precondition states. -/
theorem facts : Cert.Pre_finite.Facts where
  bitsLt_bf16_f32 := by decide
  bcast_S_S2x8192x8192 := by decide
  bcast_S_S2x8192x128 := by decide
  bcast_S_S1x16x512 := by decide
  bcast_S_S1x512 := by decide
  bcast_S_S2x4x128x256 := by decide

theorem bits_inf : Ideal.ofBits .f32 0x7F800000#32 = (⊤ : EReal) := by
  simp [Ideal.ofBits, Ideal.ieee]

/-- A value below infinity in magnitude is a real number's. -/
theorem finite_of_small (x : EReal)
    (h : BitVec.ofBool (decide ((FloatOps.absf (F := Ideal) (φ := .f32) x : EReal) < Ideal.ofBits .f32 0x7F800000#32)) = 1#1) : x ≠ ⊤ ∧ x ≠ ⊥ := by
  have h' : (FloatOps.absf (F := Ideal) (φ := .f32) x : EReal) < Ideal.ofBits .f32 0x7F800000#32 := by
    by_contra hn
    rw [decide_eq_false hn] at h
    exact absurd h (by decide)
  rw [bits_inf, Ideal.absf_def, max_lt_iff] at h'
  refine ⟨h'.1.ne, ?_⟩
  rintro rfl
  exact absurd h'.2 (by simp)

theorem finite_of_pre [Cert.Pre_finite.Facts] (P : Vec Ideal ⟨3, ![2, 8192, 8192]⟩ .bf16) (L : Vec Ideal ⟨3, ![2, 8192, 128]⟩ .f32) (W : Vec Ideal ⟨3, ![1, 16, 512]⟩ .f32)
    (B : Vec Ideal ⟨2, ![1, 512]⟩ .f32) (W' : Vec Ideal ⟨3, ![1, 16, 512]⟩ .f32) (B' : Vec Ideal ⟨2, ![1, 512]⟩ .f32) (S S' : Vec Ideal ⟨4, ![2, 4, 128, 256]⟩ .f32)
    (A8 : Vec Ideal ⟨3, ![1, 2048, 8192]⟩ .f32) (A9 A10 : Vec Ideal ⟨3, ![1, 1024, 2048]⟩ .f32) (A11 : Vec Ideal ⟨3, ![1, 2048, 2048]⟩ .f32)
    (h0 : (Cert.Pre_finite.fn (F := Ideal) P L W B W' B' S S' A8 A9 A10 A11).1 = (fun _ => 1#1)) (h1 : (Cert.Pre_finite.fn (F := Ideal) P L W B W' B' S S' A8 A9 A10 A11).2.1 = (fun _ => 1#1)) (h2 : (Cert.Pre_finite.fn (F := Ideal) P L W B W' B' S S' A8 A9 A10 A11).2.2.1 = (fun _ => 1#1))
    (h3 : (Cert.Pre_finite.fn (F := Ideal) P L W B W' B' S S' A8 A9 A10 A11).2.2.2.1 = (fun _ => 1#1)) (h4 : (Cert.Pre_finite.fn (F := Ideal) P L W B W' B' S S' A8 A9 A10 A11).2.2.2.2 = (fun _ => 1#1)) :
    Gla.Finite P ∧ Gla.Finite L ∧ Gla.Finite W ∧ Gla.Finite B ∧ Gla.Finite S := by
  refine ⟨fun i => ?_, fun i => ?_, fun i => ?_, fun i => ?_, fun i => ?_⟩
  · have hi := congrFun h0 i
    unfold Cert.Pre_finite.fn at hi
    dsimp only at hi
    pointwise at hi
    exact finite_of_small _ hi
  · have hi := congrFun h1 i
    unfold Cert.Pre_finite.fn at hi
    dsimp only at hi
    pointwise at hi
    exact finite_of_small _ hi
  · have hi := congrFun h2 i
    unfold Cert.Pre_finite.fn at hi
    dsimp only at hi
    pointwise at hi
    exact finite_of_small _ hi
  · have hi := congrFun h3 i
    unfold Cert.Pre_finite.fn at hi
    dsimp only at hi
    pointwise at hi
    exact finite_of_small _ hi
  · have hi := congrFun h4 i
    unfold Cert.Pre_finite.fn at hi
    dsimp only at hi
    pointwise at hi
    exact finite_of_small _ hi

variable [Cert.Pre_finite.Facts] (m : (ℓ : Loc Cert.KernelIdeal.nD Cert.KernelIdeal.τ Cert.KernelIdeal.sig) → Buf (Elt Ideal) ℓ)

/-- The numbers the arguments hold. -/
def data (c : Dev Cert.KernelIdeal.nD) : Gla.Data :=
  Gla.dataOf (m ((c.tc : Thread Cert.KernelIdeal.nD Cert.KernelIdeal.τ).loc Cert.KernelIdeal.main_arg0))
    (m ((c.tc : Thread Cert.KernelIdeal.nD Cert.KernelIdeal.τ).loc Cert.KernelIdeal.main_arg1)) (m ((c.tc : Thread Cert.KernelIdeal.nD Cert.KernelIdeal.τ).loc Cert.KernelIdeal.main_arg2))
    (m ((c.tc : Thread Cert.KernelIdeal.nD Cert.KernelIdeal.τ).loc Cert.KernelIdeal.main_arg3)) (m ((c.tc : Thread Cert.KernelIdeal.nD Cert.KernelIdeal.τ).loc Cert.KernelIdeal.main_arg6))

theorem reads (hpre : Cert.Pre_KernelIdeal_finite m) (c : Dev Cert.KernelIdeal.nD) : Cert.KernelIdeal.Gen.Reads m c (data m c) := by
  obtain ⟨h0, h1, h2, h3, h4⟩ := hpre c
  obtain ⟨f0, f1, f2, f3, f4⟩ := finite_of_pre _ _ _ _ _ _ _ _ _ _ _ _ h0 h1 h2 h3 h4
  exact Gla.dataOf_held _ _ _ _ _ f0 f1 f2 f3 f4

theorem algebraic : Cert.algebraic_KernelIdeal_ReferenceIdeal_pre_finite := by
  intro m g m' g' hpre hagree
  have hk : ∀ c : Dev Cert.KernelIdeal.nD, Cert.KernelIdeal.Gen.Reads m c (data m c) := reads m hpre
  refine ⟨fun c => (data m c).result, ?_, ?_⟩
  · have h := θ_run_and (Cert.KernelIdeal.Gen.run_main m g) (Cert.KernelIdeal.Gen.frame m g)
    exact (θ_run _ _ _).mono (fun r h c => ⟨((h.1 c).1 16).trans (Cert.KernelIdeal.Gen.output (hk c)), h.2.1 c⟩) h
  · refine (θ_run _ _ _).mono (fun r h c => ⟨(h c).1.trans (Cert.ReferenceIdeal.Value.result_real (D := data m c) ?_), (h c).2⟩)
      (Cert.ReferenceIdeal.Value.run m' g')
    obtain ⟨e0, e1, e2, e3, _, _, e6, _⟩ := hagree c
    rw [e0, e1, e2, e3, e6]
    exact hk c

end Cert.Forward
end
-- ==== Proof.Mlp.Ideal.Points.lean ====
module

public import proofs.«01_k».proof.Proof.Gen.Kernel2Ideal.Frame
public import proofs.«01_k».proof.Proof.Gen.Kernel2Ideal.Skeleton
public import Idealize.ShloMosaic.Lib.Pipeline.TableIdle
public import Idealize.ShloMosaic.Lib.VecWindow

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val % 128 = 0 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [cond0_0, e0, e1]
    word_cmp
   : ∀ t : Fin grid0.N, cond0_0 (grid0.coords t) ↔ t.val % 128 = 0)

abbrev cond0_1 (i : grid0.Coords) : Prop := k0_cond2 i = 1#1
theorem hcond0_1 : ∀ t : Fin cfg0.N, cond0_1 (grid0.coords t) ↔ t.val % 4 = 0 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [cond0_1, k0_cond2, e0, e1]
    word_cmp
   : ∀ t : Fin grid0.N, cond0_1 (grid0.coords t) ↔ t.val % 4 = 0)

abbrev cond0_2 (i : grid0.Coords) : Prop := k0_cond3 i = 1#1
theorem hcond0_2 : ∀ t : Fin cfg0.N, cond0_2 (grid0.coords t) ↔ (1 ≤ t.val % 4 ∧ t.val % 4 ≤ 2) :=
  (by decide +kernel : ∀ t : Fin grid0.N, cond0_2 (grid0.coords t) ↔ (1 ≤ t.val % 4 ∧ t.val % 4 ≤ 2))

abbrev cond0_3 (i : grid0.Coords) : Prop := k0_cond4 i = 1#1
theorem hcond0_3 : ∀ t : Fin cfg0.N, cond0_3 (grid0.coords t) ↔ t.val % 4 = 3 :=
  (fun t => by
    have ht : t.val < 128 := Nat.lt_of_lt_of_eq t.isLt N_0
    have e0 : (grid0.coords t 0).val = t.val / 4 % 32 := Pipeline.Grid.coords_val t 0 (by decide) rfl
    have e1 : (grid0.coords t 1).val = t.val / 1 % 4 := Pipeline.Grid.coords_val t 1 (by decide) rfl
    simp only [cond0_3, k0_cond4, e0, e1]
    word_cmp
   : ∀ t : Fin grid0.N, cond0_3 (grid0.coords t) ↔ t.val % 4 = 3)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl
theorem liveAt0_3 : ∀ t : Fin cfg0.N, cfg0.idle 3 (grid0.coords t) = false := fun _ => rfl
theorem liveAt0_4 : ∀ t : Fin cfg0.N, cfg0.idle 4 (grid0.coords t) = false := fun _ => rfl
theorem liveAt0_5 : ∀ t : Fin cfg0.N, cfg0.idle 5 (grid0.coords t) = false := fun _ => rfl
theorem liveAt0_6 : ∀ t : Fin cfg0.N, cfg0.idle 6 (grid0.coords t) = false := fun _ => rfl
theorem liveAt0_7 : ∀ t : Fin cfg0.N, cfg0.idle 7 (grid0.coords t) = false := fun _ => rfl
theorem liveAt0_8 : ∀ t : Fin cfg0.N, cfg0.idle 8 (grid0.coords t) = false := fun _ => rfl
theorem liveAt0_9 : ∀ t : Fin cfg0.N, cfg0.idle 9 (grid0.coords t) = false := fun _ => rfl
theorem liveAt0_10 : ∀ t : Fin cfg0.N, cfg0.idle 10 (grid0.coords t) = false := fun _ => rfl

def freshTab0_11 : ℕ → Bool
  | 0 => true
  | n + 1 => (0x88888888888888888888888888888888 : ℕ).testBit n
theorem freshTab0_11_step : ∀ t : Fin cfg0.N,
    freshTab0_11 (t.val + 1) = ((cfg0.win 11).flush t || (cfg0.idle 11 (cfg0.grid.coords t) && freshTab0_11 t.val)) := by decide +kernel
theorem fresh0_11_eq (t : Fin cfg0.N) : cfg0.fresh 11 t.val = freshTab0_11 t.val :=
  Pipeline.Cfg.fresh_tab cfg0 11 freshTab0_11 rfl freshTab0_11_step t.val (Nat.le_of_lt t.isLt)
theorem liveAt0_11 : ∀ t : Fin cfg0.N, cfg0.idle 11 (grid0.coords t) = false := by decide +kernel
theorem notFresh0_11 : ∀ t : Fin cfg0.N, t.val % 4 ≠ 0 → cfg0.fresh 11 t.val = false := by
  intro t; rw [fresh0_11_eq t]; revert t; decide +kernel

abbrev ms0_0 (t : Fin cfg0.N) : Memref sig .tc .vmem S512x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x1x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x1x2048 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1x2048 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S2048x2048 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S2048x2048 .bf16 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x2048 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S512x2048 .f32 := win0_11.stage (cfg0.slots t 11)
abbrev hs0_11 (t : Fin cfg0.N) : (ms0_11 t).IsWhole := hstage0_11 ((cfg0.slots t 11).cast nbuf0_11)
abbrev scM0_0 : Memref sig .tc .vmem S512x2048 .bf16 := Memref.whole cc0_scratch0
abbrev scM0_1 : Memref sig .tc .vmem S512x2048 .bf16 := Memref.whole cc0_scratch1
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the body does at a point -/

/-- On whole buffers at the contents `x…` the body ends with the output's buffer at `yo`, the tile's normalised rows at `ys0` and the
    next tile's at `ys1`; the inputs' buffers are as they were. -/
def BodyRun (i : grid0.Coords) (x0 : Vec F S512x2048 .f32) (x1 : Vec F S128x2048 .f32) (x2 : Vec F S1x1x2048 .f32) (x3 : Vec F S1x1x2048 .f32) (x4 : Vec F S1x1x2048 .f32) (x5 : Vec F S1x1x2048 .f32) (x6 : Vec F S1x1x2048 .f32) (x7 : Vec F S1x2048 .f32) (x8 : Vec F S2048x2048 .bf16) (x9 : Vec F S2048x2048 .bf16) (x10 : Vec F S1x2048 .f32) (xo : Vec F S512x2048 .f32) (xs0 : Vec F S512x2048 .bf16) (xs1 : Vec F S512x2048 .bf16)
    (yo : Vec F S512x2048 .f32) (ys0 ys1 : Vec F S512x2048 .bf16) : Prop :=
  ∀ (c : Dev nD)
    (arg2 : Memref sig .tc .vmem S512x2048 .f32) (harg2 : arg2.IsWhole)
    (arg3 : Memref sig .tc .vmem S128x2048 .f32) (harg3 : arg3.IsWhole)
    (arg4 : Memref sig .tc .vmem S1x1x2048 .f32) (harg4 : arg4.IsWhole)
    (arg5 : Memref sig .tc .vmem S1x1x2048 .f32) (harg5 : arg5.IsWhole)
    (arg6 : Memref sig .tc .vmem S1x1x2048 .f32) (harg6 : arg6.IsWhole)
    (arg7 : Memref sig .tc .vmem S1x1x2048 .f32) (harg7 : arg7.IsWhole)
    (arg8 : Memref sig .tc .vmem S1x1x2048 .f32) (harg8 : arg8.IsWhole)
    (arg9 : Memref sig .tc .vmem S1x2048 .f32) (harg9 : arg9.IsWhole)
    (arg10 : Memref sig .tc .vmem S2048x2048 .bf16) (harg10 : arg10.IsWhole)
    (arg11 : Memref sig .tc .vmem S2048x2048 .bf16) (harg11 : arg11.IsWhole)
    (arg12 : Memref sig .tc .vmem S1x2048 .f32) (harg12 : arg12.IsWhole)
    (arg13 : Memref sig .tc .vmem S512x2048 .f32) (harg13 : arg13.IsWhole)
    (arg14 : Memref sig .tc .vmem S512x2048 .bf16) (harg14 : arg14.IsWhole)
    (arg15 : Memref sig .tc .vmem S512x2048 .bf16) (harg15 : arg15.IsWhole)
    (E : Set ℕ) (K : PUnit → sProp 𝕄),
    iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare xo
        ∗ owns (c : Thread nD τ) arg14 fullShare xs0
        ∗ owns (c : Thread nD τ) arg15 fullShare xs1
        ∗ (iprop(owns (c : Thread nD τ) arg2 fullShare x0
        ∗ owns (c : Thread nD τ) arg3 fullShare x1
        ∗ owns (c : Thread nD τ) arg4 fullShare x2
        ∗ owns (c : Thread nD τ) arg5 fullShare x3
        ∗ owns (c : Thread nD τ) arg6 fullShare x4
        ∗ owns (c : Thread nD τ) arg7 fullShare x5
        ∗ owns (c : Thread nD τ) arg8 fullShare x6
        ∗ owns (c : Thread nD τ) arg9 fullShare x7
        ∗ owns (c : Thread nD τ) arg10 fullShare x8
        ∗ owns (c : Thread nD τ) arg11 fullShare x9
        ∗ owns (c : Thread nD τ) arg12 fullShare x10
        ∗ owns (c : Thread nD τ) arg13 fullShare yo
        ∗ owns (c : Thread nD τ) arg14 fullShare ys0
        ∗ owns (c : Thread nD τ) arg15 fullShare ys1) -∗ K ⟨⟩))
      ⊢ wp frame (wpE (defs₀ (F := F)) Variants.none c none) E (cc0_mlp i arg2 harg2 arg3 harg3 arg4 harg4 arg5 harg5 arg6 harg6 arg7 harg7 arg8 harg8 arg9 harg9 arg10 harg10 arg11 harg11 arg12 harg12 arg13 harg13 arg14 harg14 arg15 harg15) K

/-- The normalised slab of the next tile, put at its rows. -/
abbrev nextRows (i : grid0.Coords) (xs1 : Vec F S512x2048 .bf16) (x1 : Vec F S128x2048 .f32) (x4 x5 : Vec F S1x1x2048 .f32)
    (x7 : Vec F S1x2048 .f32) : Vec F S512x2048 .bf16 :=
  VecWindow.put xs1 (k0_off2 i) S128x2048.size (k0_pay8 x1 x4 x5 x7)

/-- A load of a whole buffer's own sizes reads its contents. -/
theorem load_whole {κ : Kind} {sp : Space} {s : Shape} {e : EltTy} {a : Memref sig κ sp s e} (h : a.IsWhole) (X : Vec F s e)
    {off : Fin s.rank → ℕ} (inb : ∀ b, off b + s.size b ≤ s.size b) :
    a.view.readAt (Elt F) (Rect.unit off s.size inb).toLoadRect (h.unread X) = X :=
  (View.readAt_full _ _ _).trans (h.read_unread _)

/-- A slab stored into a whole buffer is put at its rows. -/
theorem read_put {a : Memref sig .tc .vmem S512x2048 .bf16} (h : a.IsWhole) (X : Vec F S512x2048 .bf16) {off off' : Fin 2 → ℕ}
    (inb : ∀ b, off b + S128x2048.size b ≤ S512x2048.size b) {w w' : Vec F S128x2048 .bf16} (hoff : off = off') (hw : w = w') :
    a.view.read (Elt F) (a.view.writes (Elt F) (h.unread X) [⟨Rect.unit off S128x2048.size inb, w⟩])
      = VecWindow.put X off' S128x2048.size w' := by
  subst hw
  rw [View.read_writes_cons_put _ _ _ _ _ hoff, View.writes_nil, h.read_unread]
theorem pay1_congr {a a' : Vec F S512x2048 .f32} {b b' c c' : Vec F S1x1x2048 .f32} {d d' : Vec F S1x2048 .f32} (ha : a = a') (hb : b = b')
    (hc : c = c') (hd : d = d') : k0_pay1 a b c d = k0_pay1 a' b' c' d' := by rw [ha, hb, hc, hd]
theorem pay8_congr {a a' : Vec F S128x2048 .f32} {b b' c c' : Vec F S1x1x2048 .f32} {d d' : Vec F S1x2048 .f32} (ha : a = a') (hb : b = b')
    (hc : c = c') (hd : d = d') : k0_pay8 a b c d = k0_pay8 a' b' c' d' := by rw [ha, hb, hc, hd]
theorem pay2_congr {a a' : Vec F S512x2048 .bf16} {b b' d d' : Vec F S2048x2048 .bf16} (ha : a = a') (hb : b = b') (hd : d = d') :
    k0_pay2 (k0_pay7 a b) d = k0_pay2 (k0_pay7 a' b') d' := by rw [ha, hb, hd]
theorem pay3_congr {o o' : Vec F S512x2048 .f32} {a a' : Vec F S512x2048 .bf16} {b b' d d' : Vec F S2048x2048 .bf16} (ho : o = o')
    (ha : a = a') (hb : b = b') (hd : d = d') (z : FVec F S512x2048 .f32) :
    k0_pay3 (k0_pay9 o) a b z d = k0_pay3 (k0_pay9 o') a' b' z d' := by rw [ho, ha, hb, hd]
theorem pay4_congr {o o' x x' : Vec F S512x2048 .f32} {a a' : Vec F S512x2048 .bf16} {b b' d d' : Vec F S2048x2048 .bf16}
    {g g' : Vec F S1x1x2048 .f32} {f f' : Vec F S1x2048 .f32} (ho : o = o')
    (ha : a = a') (hb : b = b') (hd : d = d') (hx : x = x') (hg : g = g') (hf : f = f') (z : FVec F S512x2048 .f32) :
    k0_pay4 (k0_pay11 o) a b z d x g f = k0_pay4 (k0_pay11 o') a' b' z d' x' g' f' := by rw [ho, ha, hb, hd, hx, hg, hf]

end Cert.Kernel2Ideal.Gen

end
-- ==== Proof.Mlp.Ideal.RunFirst.lean ====
module

public import proofs.«01_k».proof.Proof.Mlp.Ideal.Points

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at the first point: it also makes the first tile's rows. -/
theorem runFirst (i : grid0.Coords) (hc0 : cond0_0 i) (hc1 : cond0_1 i) (hc2 : ¬cond0_2 i) (hc3 : ¬cond0_3 i)
    (x0 : Vec F S512x2048 .f32) (x1 : Vec F S128x2048 .f32) (x2 : Vec F S1x1x2048 .f32) (x3 : Vec F S1x1x2048 .f32) (x4 : Vec F S1x1x2048 .f32) (x5 : Vec F S1x1x2048 .f32) (x6 : Vec F S1x1x2048 .f32) (x7 : Vec F S1x2048 .f32) (x8 : Vec F S2048x2048 .bf16) (x9 : Vec F S2048x2048 .bf16) (x10 : Vec F S1x2048 .f32) (xo : Vec F S512x2048 .f32) (xs0 : Vec F S512x2048 .bf16) (xs1 : Vec F S512x2048 .bf16) :
    BodyRun i x0 x1 x2 x3 x4 x5 x6 x7 x8 x9 x10 xo xs0 xs1
      (k0_pay2 (k0_pay7 (k0_pay1 x0 x2 x3 x7) x8) x9) (k0_pay1 x0 x2 x3 x7) (nextRows i xs1 x1 x4 x5 x7) := by
  intro c arg2 harg2 arg3 harg3 arg4 harg4 arg5 harg5 arg6 harg6 arg7 harg7 arg8 harg8 arg9 harg9 arg10 harg10 arg11 harg11 arg12 harg12 arg13 harg13 arg14 harg14 arg15 harg15 E K
  simp only [cc0_mlp_eq_skeleton]; unfold cc0_mlp_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr
    swap; · iexact H11
    ipureintro; exact (View.read_writes_full _ _ _ _ _).trans (pay2_congr ((View.readAt_writes_full _ _ _ _ _ _).trans (pay1_congr (load_whole harg2 x0 _) (load_whole harg4 x2 _) (load_whole harg5 x3 _) (load_whole harg9 x7 _))) (load_whole harg10 x8 _) (load_whole harg11 x9 _))
  isplitl [H12]
  · iexists _; isplitr
    swap; · iexact H12
    ipureintro; exact (View.read_writes_full _ _ _ _ _).trans (pay1_congr (load_whole harg2 x0 _) (load_whole harg4 x2 _) (load_whole harg5 x3 _) (load_whole harg9 x7 _))
  iexists _; isplitr
  swap; · iexact H13
  ipureintro; exact (read_put harg15 xs1 _ (rfl : k0_off1 i = k0_off2 i) (pay8_congr (load_whole harg3 x1 _) (load_whole harg6 x4 _) (load_whole harg7 x5 _) (load_whole harg9 x7 _)))

end Cert.Kernel2Ideal.Gen

end
-- ==== Proof.Mlp.Ideal.RunBegin.lean ====
module

public import proofs.«01_k».proof.Proof.Mlp.Ideal.Points

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at a tile's first point but the first: it starts the sum. -/
theorem runBegin (i : grid0.Coords) (hc0 : ¬cond0_0 i) (hc1 : cond0_1 i) (hc2 : ¬cond0_2 i) (hc3 : ¬cond0_3 i)
    (x0 : Vec F S512x2048 .f32) (x1 : Vec F S128x2048 .f32) (x2 : Vec F S1x1x2048 .f32) (x3 : Vec F S1x1x2048 .f32) (x4 : Vec F S1x1x2048 .f32) (x5 : Vec F S1x1x2048 .f32) (x6 : Vec F S1x1x2048 .f32) (x7 : Vec F S1x2048 .f32) (x8 : Vec F S2048x2048 .bf16) (x9 : Vec F S2048x2048 .bf16) (x10 : Vec F S1x2048 .f32) (xo : Vec F S512x2048 .f32) (xs0 : Vec F S512x2048 .bf16) (xs1 : Vec F S512x2048 .bf16) :
    BodyRun i x0 x1 x2 x3 x4 x5 x6 x7 x8 x9 x10 xo xs0 xs1
      (k0_pay2 (k0_pay7 xs0 x8) x9) xs0 (nextRows i xs1 x1 x4 x5 x7) := by
  intro c arg2 harg2 arg3 harg3 arg4 harg4 arg5 harg5 arg6 harg6 arg7 harg7 arg8 harg8 arg9 harg9 arg10 harg10 arg11 harg11 arg12 harg12 arg13 harg13 arg14 harg14 arg15 harg15 E K
  simp only [cc0_mlp_eq_skeleton]; unfold cc0_mlp_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr
    swap; · iexact H11
    ipureintro; exact (View.read_writes_full _ _ _ _ _).trans (pay2_congr (load_whole harg14 xs0 _) (load_whole harg10 x8 _) (load_whole harg11 x9 _))
  isplitl [H12]
  · iexists _; isplitr
    swap; · iexact H12
    ipureintro; exact harg14.read_unread _
  iexists _; isplitr
  swap; · iexact H13
  ipureintro; exact (read_put harg15 xs1 _ (rfl : k0_off1 i = k0_off2 i) (pay8_congr (load_whole harg3 x1 _) (load_whole harg6 x4 _) (load_whole harg7 x5 _) (load_whole harg9 x7 _)))

end Cert.Kernel2Ideal.Gen

end
-- ==== Proof.Mlp.Ideal.RunMiddle.lean ====
module

public import proofs.«01_k».proof.Proof.Mlp.Ideal.Points

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at a tile's second and third points: they add to the sum. -/
theorem runMiddle (i : grid0.Coords) (hc0 : ¬cond0_0 i) (hc1 : ¬cond0_1 i) (hc2 : cond0_2 i) (hc3 : ¬cond0_3 i)
    (x0 : Vec F S512x2048 .f32) (x1 : Vec F S128x2048 .f32) (x2 : Vec F S1x1x2048 .f32) (x3 : Vec F S1x1x2048 .f32) (x4 : Vec F S1x1x2048 .f32) (x5 : Vec F S1x1x2048 .f32) (x6 : Vec F S1x1x2048 .f32) (x7 : Vec F S1x2048 .f32) (x8 : Vec F S2048x2048 .bf16) (x9 : Vec F S2048x2048 .bf16) (x10 : Vec F S1x2048 .f32) (xo : Vec F S512x2048 .f32) (xs0 : Vec F S512x2048 .bf16) (xs1 : Vec F S512x2048 .bf16) :
    BodyRun i x0 x1 x2 x3 x4 x5 x6 x7 x8 x9 x10 xo xs0 xs1
      (k0_pay3 (k0_pay9 xo) xs0 x8 (constant S512x2048 .f32 0x00000000#32) x9) xs0 (nextRows i xs1 x1 x4 x5 x7) := by
  intro c arg2 harg2 arg3 harg3 arg4 harg4 arg5 harg5 arg6 harg6 arg7 harg7 arg8 harg8 arg9 harg9 arg10 harg10 arg11 harg11 arg12 harg12 arg13 harg13 arg14 harg14 arg15 harg15 E K
  simp only [cc0_mlp_eq_skeleton]; unfold cc0_mlp_skel
  simp only [k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr
    swap; · iexact H11
    ipureintro; exact (View.read_writes_full _ _ _ _ _).trans (pay3_congr (load_whole harg13 xo _) (load_whole harg14 xs0 _) (load_whole harg10 x8 _) (load_whole harg11 x9 _) _)
  isplitl [H12]
  · iexists _; isplitr
    swap; · iexact H12
    ipureintro; exact harg14.read_unread _
  iexists _; isplitr
  swap; · iexact H13
  ipureintro; exact (read_put harg15 xs1 _ (rfl : k0_off2 i = k0_off2 i) (pay8_congr (load_whole harg3 x1 _) (load_whole harg6 x4 _) (load_whole harg7 x5 _) (load_whole harg9 x7 _)))

end Cert.Kernel2Ideal.Gen

end
-- ==== Proof.Mlp.Ideal.RunLast.lean ====
module

public import proofs.«01_k».proof.Proof.Mlp.Ideal.Points

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 2000000 in
/-- The body at a tile's last point: it ends the sum, adds the residual, normalises, and moves the next tile's rows. -/
theorem runLast (i : grid0.Coords) (hc0 : ¬cond0_0 i) (hc1 : ¬cond0_1 i) (hc2 : ¬cond0_2 i) (hc3 : cond0_3 i)
    (x0 : Vec F S512x2048 .f32) (x1 : Vec F S128x2048 .f32) (x2 : Vec F S1x1x2048 .f32) (x3 : Vec F S1x1x2048 .f32) (x4 : Vec F S1x1x2048 .f32) (x5 : Vec F S1x1x2048 .f32) (x6 : Vec F S1x1x2048 .f32) (x7 : Vec F S1x2048 .f32) (x8 : Vec F S2048x2048 .bf16) (x9 : Vec F S2048x2048 .bf16) (x10 : Vec F S1x2048 .f32) (xo : Vec F S512x2048 .f32) (xs0 : Vec F S512x2048 .bf16) (xs1 : Vec F S512x2048 .bf16) :
    BodyRun i x0 x1 x2 x3 x4 x5 x6 x7 x8 x9 x10 xo xs0 xs1
      (k0_pay4 (k0_pay11 xo) xs0 x8 (constant S512x2048 .f32 0x00000000#32) x9 x0 x6 x10) (k0_pay5 (nextRows i xs1 x1 x4 x5 x7)) (nextRows i xs1 x1 x4 x5 x7) := by
  intro c arg2 harg2 arg3 harg3 arg4 harg4 arg5 harg5 arg6 harg6 arg7 harg7 arg8 harg8 arg9 harg9 arg10 harg10 arg11 harg11 arg12 harg12 arg13 harg13 arg14 harg14 arg15 harg15 E K
  simp only [cc0_mlp_eq_skeleton]; unfold cc0_mlp_skel
  simp only [k0_part3_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13
  sl_exec (disch := first | sl_exact hc0 | sl_exact hc1 | sl_exact hc2 | sl_exact hc3)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr; · ipureintro; exact harg5.read_unread _
    iexact H3
  isplitl [H4]
  · iexists _; isplitr; · ipureintro; exact harg6.read_unread _
    iexact H4
  isplitl [H5]
  · iexists _; isplitr; · ipureintro; exact harg7.read_unread _
    iexact H5
  isplitl [H6]
  · iexists _; isplitr; · ipureintro; exact harg8.read_unread _
    iexact H6
  isplitl [H7]
  · iexists _; isplitr; · ipureintro; exact harg9.read_unread _
    iexact H7
  isplitl [H8]
  · iexists _; isplitr; · ipureintro; exact harg10.read_unread _
    iexact H8
  isplitl [H9]
  · iexists _; isplitr; · ipureintro; exact harg11.read_unread _
    iexact H9
  isplitl [H10]
  · iexists _; isplitr; · ipureintro; exact harg12.read_unread _
    iexact H10
  isplitl [H11]
  · iexists _; isplitr
    swap; · iexact H11
    ipureintro; exact (View.read_writes_full _ _ _ _ _).trans (pay4_congr (load_whole harg13 xo _) (load_whole harg14 xs0 _) (load_whole harg10 x8 _) (load_whole harg11 x9 _) (load_whole harg2 x0 _) (load_whole harg8 x6 _) (load_whole harg12 x10 _) _)
  isplitl [H12]
  · iexists _; isplitr
    swap; · iexact H12
    ipureintro; exact (View.read_writes_full _ _ _ _ _).trans (congrArg k0_pay5 ((View.readAt_full _ _ _).trans (read_put harg15 xs1 _ (rfl : k0_off3 i = k0_off2 i) (pay8_congr (load_whole harg3 x1 _) (load_whole harg6 x4 _) (load_whole harg7 x5 _) (load_whole harg9 x7 _)))))
  iexists _; isplitr
  swap; · iexact H13
  ipureintro; exact (read_put harg15 xs1 _ (rfl : k0_off3 i = k0_off2 i) (pay8_congr (load_whole harg3 x1 _) (load_whole harg6 x4 _) (load_whole harg7 x5 _) (load_whole harg9 x7 _)))

end Cert.Kernel2Ideal.Gen

end
-- ==== Proof.Mlp.Ideal.Point.lean ====
module

public import proofs.«01_k».proof.Proof.Mlp.Ideal.RunFirst
public import proofs.«01_k».proof.Proof.Mlp.Ideal.RunBegin
public import proofs.«01_k».proof.Proof.Mlp.Ideal.RunMiddle
public import proofs.«01_k».proof.Proof.Mlp.Ideal.RunLast
public import Idealize.ShloMosaic.Lib.Pointwise

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the points leave, as functions of the arrays -/

/-- Point `n` of the grid. -/
def pt (n : ℕ) : Fin cfg0.N := ⟨n % 128, lt_of_lt_of_eq (Nat.mod_lt n (by decide)) N_0.symm⟩

theorem pt_val (t : Fin cfg0.N) : pt t.val = t :=
  Fin.ext (Nat.mod_eq_of_lt (lt_of_lt_of_eq t.isLt N_0))

/-- The slab of the next tile's rows that point `n` makes. -/
def slab (c : Dev nD) (n : ℕ) : Vec F S128x2048 .bf16 :=
  k0_pay8 (iblk m c 1 (pt n)) (iblk m c 4 (pt n)) (iblk m c 5 (pt n)) (iblk m c 7 (pt n))

/-- A tile's index within its slab. -/
def inSlab (y : S512x2048.Idx) : S128x2048.Idx := ix2 ⟨(y 0).val % 128, Nat.mod_lt _ (by decide)⟩ (y 1)

/-- The rows which the four points of tile `g` make: those of tile `g + 1`. -/
def nextTile (c : Dev nD) (g : ℕ) : Vec F S512x2048 .bf16 := fun y => slab m c (4 * g + (y 0).val / 128) (inSlab y)

/-- The normalised rows of tile `g`. -/
def tile (c : Dev nD) : ℕ → Vec F S512x2048 .bf16
  | 0 => k0_pay1 (iblk m c 0 (pt 0)) (iblk m c 2 (pt 0)) (iblk m c 3 (pt 0)) (iblk m c 7 (pt 0))
  | g + 1 => k0_pay5 (nextTile m c g)

/-- The output's buffer after a tile's first point. -/
def begun (c : Dev nD) (n : ℕ) : Vec F S512x2048 .f32 :=
  k0_pay2 (k0_pay7 (tile m c (n / 4)) (iblk m c 8 (pt n))) (iblk m c 9 (pt n))

/-- The output's buffer after a middle point, from what the point before left. -/
def added (c : Dev nD) (n : ℕ) (o : Vec F S512x2048 .f32) : Vec F S512x2048 .f32 :=
  k0_pay3 (k0_pay9 o) (tile m c (n / 4)) (iblk m c 8 (pt n)) (constant S512x2048 .f32 0x00000000#32) (iblk m c 9 (pt n))

/-- The output's buffer after a tile's last point, from what the point before left. -/
def ended (c : Dev nD) (n : ℕ) (o : Vec F S512x2048 .f32) : Vec F S512x2048 .f32 :=
  k0_pay4 (k0_pay11 o) (tile m c (n / 4)) (iblk m c 8 (pt n)) (constant S512x2048 .f32 0x00000000#32) (iblk m c 9 (pt n))
    (iblk m c 0 (pt n)) (iblk m c 6 (pt n)) (iblk m c 10 (pt n))

/-- The output's buffer after point `n`. -/
def outAfter (c : Dev nD) : ℕ → Vec F S512x2048 .f32
  | 0 => begun m c 0
  | n + 1 => if (n + 1) % 4 = 0 then begun m c (n + 1)
      else if (n + 1) % 4 = 3 then ended m c (n + 1) (outAfter c n) else added m c (n + 1) (outAfter c n)

theorem outAfter_begin (c : Dev nD) (n : ℕ) (h : n % 4 = 0) : outAfter m c n = begun m c n := by
  cases n with
  | zero => rfl
  | succ n => rw [outAfter, if_pos h]

theorem outAfter_middle (c : Dev nD) (n : ℕ) (h : n % 4 ≠ 0) (h' : n % 4 ≠ 3) :
    outAfter m c n = added m c n (outAfter m c (n - 1)) := by
  cases n with
  | zero => exact absurd rfl h
  | succ n => rw [outAfter, if_neg h, if_neg h', Nat.add_sub_cancel]

theorem outAfter_last (c : Dev nD) (n : ℕ) (h : n % 4 = 3) :
    outAfter m c n = ended m c n (outAfter m c (n - 1)) := by
  cases n with
  | zero => exact absurd h (by decide)
  | succ n => rw [outAfter, if_neg (by omega), if_pos h, Nat.add_sub_cancel]

/-- The rows of the next tile which the points of point `n`'s tile have made so far. -/
def Made (c : Dev nD) (n : ℕ) (d : Vec F S512x2048 .bf16) : Prop :=
  ∀ y : S512x2048.Idx, (y 0).val < 128 * (n % 4 + 1) → d y = nextTile m c (n / 4) y

theorem off_val (t : Fin cfg0.N) : k0_off2 (grid0.coords t) = ![128 * (t.val % 4), 0] := by
  revert t; exact (by decide +kernel : ∀ t : Fin grid0.N, k0_off2 (grid0.coords t) = ![128 * (t.val % 4), 0])

theorem made_next (c : Dev nD) (t : Fin cfg0.N) (xs1 : Vec F S512x2048 .bf16) (h : t.val % 4 ≠ 0 → Made m c (t.val - 1) xs1) :
    Made m c t.val (nextRows (grid0.coords t) xs1 (iblk m c 1 t) (iblk m c 4 t) (iblk m c 5 t) (iblk m c 7 t)) := by
  intro y hy
  unfold nextRows
  rw [off_val]
  unfold VecWindow.put
  have hy1 : (y 1).val < 2048 := (y 1).isLt
  split
  · rename_i hin
    have h0 : 128 * (t.val % 4) ≤ (y 0).val := (hin 0).1
    have e : 4 * (t.val / 4) + (y 0).val / 128 = t.val := by omega
    unfold nextTile slab
    rw [e, pt_val]
    refine congrArg (k0_pay8 (iblk m c 1 t) (iblk m c 4 t) (iblk m c 5 t) (iblk m c 7 t)) (funext fun a => Fin.ext ?_)
    match a with
    | ⟨0, _⟩ => show (y 0).val - 128 * (t.val % 4) = (y 0).val % 128; omega
    | ⟨1, _⟩ => show (y 1).val - 0 = (y 1).val; omega
  · rename_i hin
    have hlt : (y 0).val < 128 * (t.val % 4) := by
      by_contra hc
      exact hin (fun a => match a with
        | ⟨0, _⟩ => ⟨not_lt.mp hc, by show (y 0).val < 128 * (t.val % 4) + 128; omega⟩
        | ⟨1, _⟩ => ⟨Nat.zero_le _, by show (y 1).val < 0 + 2048; omega⟩)
    have hne : t.val % 4 ≠ 0 := by omega
    rw [h hne y (by omega), show (t.val - 1) / 4 = t.val / 4 by omega]

theorem made_all (c : Dev nD) (n : ℕ) (d : Vec F S512x2048 .bf16) (h : Made m c n d) (h3 : n % 4 = 3) :
    d = nextTile m c (n / 4) :=
  funext fun y => h y (by have := (y 0).isLt; have e : S512x2048.size 0 = 512 := rfl; omega)

/-- THE BODY AT ANY POINT: from what the point before left to what the point leaves. -/
theorem body_point (c : Dev nD) (t : Fin cfg0.N) (xo : Vec F S512x2048 .f32) (xs0 xs1 : Vec F S512x2048 .bf16)
    (ho : t.val % 4 ≠ 0 → xo = outAfter m c (t.val - 1)) (h0 : t.val ≠ 0 → xs0 = tile m c (t.val / 4))
    (h1 : t.val % 4 ≠ 0 → Made m c (t.val - 1) xs1) :
    ∃ ys1, Made m c t.val ys1 ∧ BodyRun (grid0.coords t) (iblk m c 0 t) (iblk m c 1 t) (iblk m c 2 t) (iblk m c 3 t) (iblk m c 4 t) (iblk m c 5 t) (iblk m c 6 t) (iblk m c 7 t) (iblk m c 8 t) (iblk m c 9 t) (iblk m c 10 t) xo xs0 xs1
      (outAfter m c t.val) (tile m c ((t.val + 1) / 4)) ys1 := by
  have hN : t.val < 128 := lt_of_lt_of_eq t.isLt N_0
  refine ⟨_, made_next m c t xs1 h1, ?_⟩
  have ep := pt_val t
  by_cases hb : t.val % 4 = 0
  · have hc1 := (hcond0_1 t).mpr hb
    have hc2 : ¬cond0_2 (grid0.coords t) := fun h => by have := (hcond0_2 t).mp h; omega
    have hc3 : ¬cond0_3 (grid0.coords t) := fun h => by have := (hcond0_3 t).mp h; omega
    rw [outAfter_begin m c t.val hb, show (t.val + 1) / 4 = t.val / 4 by omega]
    unfold begun
    rw [ep]
    by_cases hz : t.val = 0
    · have e : tile m c (t.val / 4) = k0_pay1 (iblk m c 0 t) (iblk m c 2 t) (iblk m c 3 t) (iblk m c 7 t) := by
        rw [show t.val / 4 = 0 by omega, tile, show pt 0 = t by rw [← ep, hz]]
      rw [e]
      exact runFirst _ ((hcond0_0 t).mpr (by omega)) hc1 hc2 hc3 _ _ _ _ _ _ _ _ _ _ _ _ _ _
    · rw [← h0 hz]
      exact runBegin _ (fun h => by have := (hcond0_0 t).mp h; omega) hc1 hc2 hc3 _ _ _ _ _ _ _ _ _ _ _ _ _ _
  · have hc0 : ¬cond0_0 (grid0.coords t) := fun h => by have := (hcond0_0 t).mp h; omega
    have hc1 : ¬cond0_1 (grid0.coords t) := fun h => hb ((hcond0_1 t).mp h)
    have hz : t.val ≠ 0 := by omega
    by_cases hl : t.val % 4 = 3
    · rw [outAfter_last m c t.val hl, ← ho hb]
      unfold ended
      rw [ep, ← h0 hz, show (t.val + 1) / 4 = t.val / 4 + 1 by omega, tile,
        ← made_all m c t.val _ (made_next m c t xs1 h1) hl]
      exact runLast _ hc0 hc1 (fun h => by have := (hcond0_2 t).mp h; omega) ((hcond0_3 t).mpr hl) _ _ _ _ _ _ _ _ _ _ _ _ _ _
    · rw [outAfter_middle m c t.val hb hl, ← ho hb, show (t.val + 1) / 4 = t.val / 4 by omega]
      unfold added
      rw [ep, ← h0 hz]
      exact runMiddle _ hc0 hc1 ((hcond0_2 t).mpr (by omega)) (fun h => hl ((hcond0_3 t).mp h)) _ _ _ _ _ _ _ _ _ _ _ _ _ _

end Cert.Kernel2Ideal.Gen

end
-- ==== Proof.Mlp.Ideal.Frame.lean ====
module

public import proofs.«01_k».proof.Proof.Mlp.Ideal.Point
public import Idealize.ShloMosaic.Lib.Pipeline.FrameBody
public import Idealize.ShloMosaic.Lib.Claim

@[expose] public section

set_option maxRecDepth 16384

noncomputable section

namespace Cert.Kernel2Ideal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The invariant: before the first point the scoped buffers at anything; after point `n` the tile's rows, and of the next tile's those made so far. -/
def PhiS (c : Dev nD) : ℕ → sProp 𝕄
  | 0 => Pipeline.ΦA spec0 c
  | n + 1 => iprop((owns (c : Thread nD τ) scM0_0 fullShare (tile m c ((n + 1) / 4))
      ∗ (∃ d, ⌜Made m c n d⌝ ∗ owns (c : Thread nD τ) scM0_1 fullShare d)) ∗ (∃ r, prngReg c r))

/-- At a point's start the two buffers hold what the point asks. -/
theorem PhiS_open (c : Dev nD) (n : ℕ) : PhiS m c n
    ⊢ iprop(∃ xs0 xs1, ⌜(n ≠ 0 → xs0 = tile m c (n / 4)) ∧ (n % 4 ≠ 0 → Made m c (n - 1) xs1)⌝
      ∗ owns (c : Thread nD τ) scM0_0 fullShare xs0 ∗ owns (c : Thread nD τ) scM0_1 fullShare xs1 ∗ (∃ r, prngReg c r)) := by
  cases n with
  | zero =>
    rw [PhiS, PhiA0_eq]
    iintro ⟨⟨⟨%d0, H0⟩, ⟨%d1, H1⟩⟩, Hg⟩
    iexists d0; iexists d1
    isplitr
    · ipureintro; exact ⟨fun h => absurd rfl h, fun h => absurd rfl h⟩
    isplitl [H0]; · iexact H0
    isplitl [H1]; · iexact H1
    iexact Hg
  | succ n =>
    rw [PhiS]
    iintro ⟨⟨H0, ⟨%d1, %hd1, H1⟩⟩, Hg⟩
    iexists _; iexists d1
    isplitr
    · ipureintro; exact ⟨fun _ => rfl, fun _ => hd1⟩
    isplitl [H0]; · iexact H0
    isplitl [H1]; · iexact H1
    iexact Hg

/-- The proof data of the one pipeline on core `c`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outAfter m c t.val
  Φ t := PhiS m c t.val
  q w := Pipeline.shareOf spec0 w
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = outAfter m c t.val := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d

theorem hcarry0_11 (c : Dev nD) : ∀ (t : Fin cfg0.N) (_ : t.val ≠ 0), cfg0.idle 11 (grid0.coords t) = true → cfg0.fresh 11 t.val = false →
    (dats m 0 c).after 11 t = (dats m 0 c).after 11 ⟨t.val - 1, by omega⟩ := by
  intro t _ hi _
  rw [liveAt0_11 t] at hi
  exact absurd hi Bool.false_ne_true

/-- Within a tile the output's buffer holds what the point before left. -/
theorem before0_11 (c : Dev nD) (t : Fin cfg0.N) (h : t.val % 4 ≠ 0) (d) :
    (dats m 0 c).before 11 t d = outAfter m c (t.val - 1) := by
  rw [Dat.before_out_traj _ 11 rfl (fun _ _ => rfl) (hcarry0_11 m c) t.val t rfl d,
    if_neg (by rw [notFresh0_11 t h]; exact Bool.false_ne_true)]
  dsimp only [dats]

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t)

theorem leaves (c : Dev nD) (w : Fin cfg0.W) (t : Fin cfg0.N) (h : cfg0.idle w (grid0.coords t) = false) :
    (dats m 0 c).leavesExact w t
      = owns (c : Thread nD τ) ((cfg0.win w).stage (cfg0.slots t w)) fullShare ((dats m 0 c).after w t) := by
  unfold Dat.leavesExact; rw [h]

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10]
  rw [show (dats m 0 c).owesAt () t.succ = (dats m 0 c).owesAt () t.castSucc from rfl]
  rw [show (dats m 0 c).Φ t.succ = PhiS m c (t.val + 1) from rfl, show (dats m 0 c).Φ t.castSucc = PhiS m c t.val from rfl]
  rw [leaves m c 0 t (liveAt0_0 t), leaves m c 1 t (liveAt0_1 t), leaves m c 2 t (liveAt0_2 t), leaves m c 3 t (liveAt0_3 t), leaves m c 4 t (liveAt0_4 t), leaves m c 5 t (liveAt0_5 t), leaves m c 6 t (liveAt0_6 t), leaves m c 7 t (liveAt0_7 t), leaves m c 8 t (liveAt0_8 t), leaves m c 9 t (liveAt0_9 t), leaves m c 10 t (liveAt0_10 t), leaves m c 11 t (liveAt0_11 t)]
  rw [after0_0, after0_1, after0_2, after0_3, after0_4, after0_5, after0_6, after0_7, after0_8, after0_9, after0_10, after0_11]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  ihave HP := PhiS_open m c t.val $$ HP
  icases HP with ⟨%xs0, %xs1, %hx, HS0, HS1, Hg⟩
  obtain ⟨ys1, hm, hrun⟩ := body_point m c t ((dats m 0 c).before 11 t d11) xs0 xs1 (fun h => before0_11 m c t h d11) hx.1 hx.2
  iapply (hrun c _ _ _ _ _ _ _ _ _ _ _ _ _ _ _ _ _ _ _ _ _ _ _ _ _ _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [HS0]; · iexact HS0
  isplitl [HS1]; · iexact HS1
  iintro ⟨H0, H1, H2, H3, H4, H5, H6, H7, H8, H9, H10, H11, HS0, HS1⟩
  isplitl [HS0 HS1 Hg]
  · rw [PhiS]
    isplitl [HS0 HS1]
    · isplitl [HS0]; · iexact HS0
      iexists ys1
      isplitr; · ipureintro; exact hm
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 from rfl, PhiS]
  try exact Idealize.SL.BI.Entails.refl _

/-- After the last point the buffers' contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val from rfl, PhiA0_eq]
  refine (PhiS_open m c _).trans ?_
  iintro ⟨%xs0, %xs1, %hx, HS0, HS1, Hg⟩
  isplitl [HS0 HS1]
  · isplitl [HS0]
    · iexists _; iexact HS0
    iexists _; iexact HS1
  iexact Hg

/-! ## The run and the frame -/

set_option backward.isDefEq.respectTransparency.types false in
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

theorem run_main : θ_run defs (onTc (τ := τ) (main (F := F))) (s₀ m ρ) (Pipeline.FramePost cfgs (dats m) 0 (V m)) :=
  (θ_run defs _ _).mono (fun _ h => h.1) (run_main_quiescent m ρ)

/-- THE FRAME: the run ends, the arguments are unchanged, and every semaphore's counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frame_of m ρ (dats m) (A_eq m) (run_main m ρ)) ((θ_run defs _ _).mono (fun _ h => h.2) (run_main_quiescent m ρ))

end Cert.Kernel2Ideal.Gen

end
-- ==== Proof.Mlp.ReferenceFrame.lean ====
module

public import proofs.«01_k».proof.Proof.Gen.Reference2Ideal.Run

/-! The frame of the MLP's reference, from its run. -/

@[expose] public section

noncomputable section

namespace Cert.Reference2Ideal.Value

open Idealize.ShloMosaic Idealize.ShloMosaic.TcCoe Idealize.SL.Sem
open Cert.Reference2Ideal.Gen

variable {F : FTy → Type} [FloatOps F]
variable (m : (ℓ : Loc nD τ sig) → Buf (Elt F) ℓ) (ρ : Dev nD → PrngReg)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun r h => ⟨fun c => (h c).2, funext fun s => by
    obtain ⟨c, s⟩ := s
    cases s with
    | reg s => exact Fin.elim0 s
    | dma s => exact Fin.elim0 s⟩) (run m ρ)

end Cert.Reference2Ideal.Value

end
-- ==== Proof.Mlp.Row.lean ====
module

public import Idealize.ShloMosaic.Lib.Pointwise

/-! The MLP with its norms, row by row over the reals with infinities: what the kernel and the reference are both shown to hold. -/

@[expose] public section

noncomputable section

namespace Cert.Mlp

open Idealize.ShloMosaic

/-- The factor of a row's norm. -/
def scale (x : Fin 2048 → EReal) : EReal :=
  Ideal.rsqrt (Ideal.div (∑ k, x k * x k) (Ideal.ofBits FTy.f32 1157627904#32) + Ideal.ofBits FTy.f32 897988541#32)

/-- The modulated norm of a row. -/
def modulated (x g sc sh : Fin 2048 → EReal) (k : Fin 2048) : EReal := x k * scale x * g k * (1 + sc k) + sh k

/-- What one hidden unit adds to a column: the square of its positive part times the weight. -/
def unit (h w1 : Fin 2048 → EReal) (w2 : EReal) : EReal := max (∑ k, h k * w1 k) 0 * max (∑ k, h k * w1 k) 0 * w2

/-- A row's norm with the final gain. -/
def normed (r fg : Fin 2048 → EReal) (k : Fin 2048) : EReal := r k * scale r * fg k

/-- Hidden unit `z` of block `j`. -/
abbrev hid (j : Fin 4) (z : Fin 2048) : Fin 8192 := ⟨2048 * j.val + z.val, by omega⟩

/-- A sum over the hidden units, block by block. -/
theorem sum_blocks (f : Fin 8192 → EReal) :
    ∑ z, f z = ∑ z, f (hid 0 z) + ∑ z, f (hid 1 z) + ∑ z, f (hid 2 z) + ∑ z, f (hid 3 z) := by
  have h3 := Fin.sum_univ_add (a := 6144) (b := 2048) f
  have h2 := Fin.sum_univ_add (a := 4096) (b := 2048) fun z => f (Fin.castAdd 2048 z)
  have h1 := Fin.sum_univ_add (a := 2048) (b := 2048) fun z => f (Fin.castAdd 2048 (Fin.castAdd 2048 z))
  refine h3.trans (congrArg₂ _ (h2.trans (congrArg₂ _ (h1.trans (congrArg₂ _ ?_ ?_)) ?_)) ?_) <;>
    exact Finset.sum_congr rfl fun z _ => congrArg f (Fin.ext (by simp [Nat.add_comm]))

section

variable (X : Vec Ideal ⟨2, ![16384, 2048]⟩ .f32) (M : Vec Ideal ⟨3, ![8, 1, 8192]⟩ .f32) (G : Vec Ideal ⟨2, ![1, 2048]⟩ .f32)
variable (W1 : Vec Ideal ⟨2, ![2048, 8192]⟩ .bf16) (W2 : Vec Ideal ⟨2, ![8192, 2048]⟩ .bf16) (E : Vec Ideal ⟨1, ![2048]⟩ .f32)

/-- Part `p` of the late modulation of row `n`'s sequence. -/
def part (n : Fin 16384) (p : Fin 4) (k : Fin 2048) : EReal :=
  M (ix3 ⟨n.val / 8192, by omega⟩ 0 ⟨2048 * p.val + k.val, by omega⟩)

/-- The modulated norm of row `n`. -/
def hiddenRow (n : Fin 16384) : Fin 2048 → EReal :=
  modulated (fun k => X (ix2 n k)) (fun k => G (ix2 0 k)) (part M n 2) (part M n 1)

/-- What hidden unit `z` adds to column `k` of row `n`. -/
def summand (n : Fin 16384) (k : Fin 2048) (z : Fin 8192) : EReal :=
  unit (hiddenRow X M G n) (fun i => W1 (ix2 i z)) (W2 (ix2 z k))

/-- Row `n` with the MLP added, gated. -/
def withMlp (n : Fin 16384) (k : Fin 2048) : EReal :=
  X (ix2 n k) + part M n 3 k * ∑ z, summand X M G W1 W2 n k z

/-- The result. -/
def result : Vec Ideal ⟨2, ![16384, 2048]⟩ .f32 := fun y =>
  normed (withMlp X M G W1 W2 (y 0)) (fun k => E (ix1 k)) (y 1)

end

end Cert.Mlp
end
-- ==== Proof.Mlp.Ideal.Payloads.lean ====
module

public import proofs.«01_k».proof.Proof.Mlp.Ideal.Point
public import proofs.«01_k».proof.Proof.Mlp.Row

/-! The body's arithmetic, entry by entry over the reals with infinities. -/

@[expose] public section

set_option maxRecDepth 16384

noncomputable section

namespace Cert.Kernel2Ideal.Gen

open Idealize.ShloMosaic Idealize.ShloMosaic.TcCoe Cert.Mlp

theorem pay1_value (x : Vec Ideal S512x2048 .f32) (sh sc : Vec Ideal S1x1x2048 .f32) (g : Vec Ideal S1x2048 .f32) (r : Fin 512) (k : Fin 2048) :
    (k0_pay1 x sh sc g (ix2 r k) : EReal)
      = modulated (fun i => x (ix2 r i)) (fun i => g (ix2 0 i)) (fun i => sc (ix3 0 0 i)) (fun i => sh (ix3 0 0 i)) k := by
  unfold k0_pay1 modulated scale
  pointwise

theorem pay8_value (x : Vec Ideal S128x2048 .f32) (sh sc : Vec Ideal S1x1x2048 .f32) (g : Vec Ideal S1x2048 .f32) (r : Fin 128) (k : Fin 2048) :
    (k0_pay8 x sh sc g (ix2 r k) : EReal)
      = modulated (fun i => x (ix2 r i)) (fun i => g (ix2 0 i)) (fun i => sc (ix3 0 0 i)) (fun i => sh (ix3 0 0 i)) k := by
  unfold k0_pay8 modulated scale
  pointwise

/-- What a block of hidden units adds to an entry. -/
def blockSum (h : Vec Ideal S512x2048 .bf16) (w1 w2 : Vec Ideal S2048x2048 .bf16) (r : Fin 512) (k : Fin 2048) : EReal :=
  ∑ z, unit (fun i => h (ix2 r i)) (fun i => w1 (ix2 i z)) (w2 (ix2 z k))

variable (h : Vec Ideal S512x2048 .bf16) (w1 w2 : Vec Ideal S2048x2048 .bf16) (o x : Vec Ideal S512x2048 .f32)
variable (gt : Vec Ideal S1x1x2048 .f32) (fg : Vec Ideal S1x2048 .f32) (r : Fin 512) (k : Fin 2048)

theorem pay2_value : (k0_pay2 (k0_pay7 h w1) w2 (ix2 r k) : EReal) = blockSum h w1 w2 r k := by
  unfold k0_pay2 k0_pay7 blockSum unit
  pointwise

theorem pay3_value : (k0_pay3 (k0_pay9 o) h w1 (constant S512x2048 .f32 0x00000000#32) w2 (ix2 r k) : EReal)
    = o (ix2 r k) + blockSum h w1 w2 r k := by
  unfold k0_pay3 k0_pay9 blockSum unit
  pointwise

theorem pay4_value : (k0_pay4 (k0_pay11 o) h w1 (constant S512x2048 .f32 0x00000000#32) w2 x gt fg (ix2 r k) : EReal)
    = normed (fun i => x (ix2 r i) + gt (ix3 0 0 i) * (o (ix2 r i) + blockSum h w1 w2 r i)) (fun i => fg (ix2 0 i)) k := by
  unfold k0_pay4 k0_pay11 normed scale blockSum unit
  pointwise

theorem pay5_value : (k0_pay5 h (ix2 r k) : EReal) = h (ix2 r k) := by
  unfold k0_pay5
  pointwise

end Cert.Kernel2Ideal.Gen
end
-- ==== Proof.Mlp.Ideal.Blocks.lean ====
module

public import proofs.«01_k».proof.Proof.Mlp.Ideal.Frame
public import proofs.«01_k».proof.Proof.Mlp.Ideal.Payloads
public import Idealize.ShloMosaic.Lib.Routing.OpsPair
public import Idealize.ShloMosaic.Lib.Routing.OpsSet

/-! The blocks that a point reads, entry by entry: point `t` is hidden block `t % 4` of tile `t / 4`. -/

@[expose] public section

set_option maxRecDepth 16384

noncomputable section

namespace Cert.Kernel2Ideal.Gen

open Idealize.ShloMosaic Idealize.ShloMosaic.TcCoe Idealize.SL.Sem

variable (m : (ℓ : Loc nD τ sig) → Buf (Elt Ideal) ℓ) (c : Dev nD)

theorem index_0 (t : Fin cfg0.N) : (2 ≤ t.val % 4 ∨ t.val = 0 → win0_0.index t 0 = t.val / 4) ∧ win0_0.index t 1 = 0 :=
  (by decide +kernel : ∀ t : Fin grid0.N, (2 ≤ t.val % 4 ∨ t.val = 0 → win0_0.index t 0 = t.val / 4) ∧ win0_0.index t 1 = 0) t
theorem index_1 (t : Fin cfg0.N) : win0_1.index t 0 = 4 * min (t.val / 4 + 1) 31 + t.val % 4 ∧ win0_1.index t 1 = 0 :=
  (by decide +kernel : ∀ t : Fin grid0.N, win0_1.index t 0 = 4 * min (t.val / 4 + 1) 31 + t.val % 4 ∧ win0_1.index t 1 = 0) t
theorem index_2 (t : Fin cfg0.N) : win0_2.index t 0 = t.val / 64 ∧ win0_2.index t 1 = 0 ∧ win0_2.index t 2 = 1 :=
  (by decide +kernel : ∀ t : Fin grid0.N, win0_2.index t 0 = t.val / 64 ∧ win0_2.index t 1 = 0 ∧ win0_2.index t 2 = 1) t
theorem index_3 (t : Fin cfg0.N) : win0_3.index t 0 = t.val / 64 ∧ win0_3.index t 1 = 0 ∧ win0_3.index t 2 = 2 :=
  (by decide +kernel : ∀ t : Fin grid0.N, win0_3.index t 0 = t.val / 64 ∧ win0_3.index t 1 = 0 ∧ win0_3.index t 2 = 2) t
theorem index_4 (t : Fin cfg0.N) : win0_4.index t 0 = min (t.val / 4 + 1) 31 / 16 ∧ win0_4.index t 1 = 0 ∧ win0_4.index t 2 = 1 :=
  (by decide +kernel : ∀ t : Fin grid0.N, win0_4.index t 0 = min (t.val / 4 + 1) 31 / 16 ∧ win0_4.index t 1 = 0 ∧ win0_4.index t 2 = 1) t
theorem index_5 (t : Fin cfg0.N) : win0_5.index t 0 = min (t.val / 4 + 1) 31 / 16 ∧ win0_5.index t 1 = 0 ∧ win0_5.index t 2 = 2 :=
  (by decide +kernel : ∀ t : Fin grid0.N, win0_5.index t 0 = min (t.val / 4 + 1) 31 / 16 ∧ win0_5.index t 1 = 0 ∧ win0_5.index t 2 = 2) t
theorem index_6 (t : Fin cfg0.N) : win0_6.index t 0 = t.val / 64 ∧ win0_6.index t 1 = 0 ∧ win0_6.index t 2 = 3 :=
  (by decide +kernel : ∀ t : Fin grid0.N, win0_6.index t 0 = t.val / 64 ∧ win0_6.index t 1 = 0 ∧ win0_6.index t 2 = 3) t
theorem index_7 (t : Fin cfg0.N) : win0_7.index t 0 = 0 ∧ win0_7.index t 1 = 0 :=
  (by decide +kernel : ∀ t : Fin grid0.N, win0_7.index t 0 = 0 ∧ win0_7.index t 1 = 0) t
theorem index_8 (t : Fin cfg0.N) : win0_8.index t 0 = 0 ∧ win0_8.index t 1 = t.val % 4 :=
  (by decide +kernel : ∀ t : Fin grid0.N, win0_8.index t 0 = 0 ∧ win0_8.index t 1 = t.val % 4) t
theorem index_9 (t : Fin cfg0.N) : win0_9.index t 0 = t.val % 4 ∧ win0_9.index t 1 = 0 :=
  (by decide +kernel : ∀ t : Fin grid0.N, win0_9.index t 0 = t.val % 4 ∧ win0_9.index t 1 = 0) t
theorem index_10 (t : Fin cfg0.N) : win0_10.index t 0 = 0 ∧ win0_10.index t 1 = 0 :=
  (by decide +kernel : ∀ t : Fin grid0.N, win0_10.index t 0 = 0 ∧ win0_10.index t 1 = 0) t
theorem index_11 (t : Fin cfg0.N) : win0_11.index t 0 = t.val / 4 ∧ win0_11.index t 1 = 0 :=
  (by decide +kernel : ∀ t : Fin grid0.N, win0_11.index t 0 = t.val / 4 ∧ win0_11.index t 1 = 0) t

theorem iblk_0 (t : Fin cfg0.N) (ht : 2 ≤ t.val % 4 ∨ t.val = 0) (r : Fin 512) (z : Fin 2048) :
    (iblk m c 0 t : Vec Ideal S512x2048 .f32) (ix2 r z) = (m ((c : Thread nD τ).loc main_arg0) : Vec Ideal S16384x2048 .f32) (ix2 ⟨512 * (t.val / 4) + r.val, by have := lt_of_lt_of_eq t.isLt N_0; omega⟩ z) := by
  have hi := index_0 t
  unfold iblk
  rw [View.read_apply]
  show V m c main_arg0 _ = m (c.tc.loc main_arg0) _
  rw [V_main_arg0]
  congr 1
  funext a
  apply Fin.ext
  match a with
  | ⟨0, _⟩ => show win0_0.index t 0 * 512 + 1 * r.val = 512 * (t.val / 4) + r.val; rw [hi.1 ht]; omega
  | ⟨1, _⟩ => show win0_0.index t 1 * 2048 + 1 * z.val = z.val; rw [hi.2]; omega

theorem iblk_1 (t : Fin cfg0.N) (r : Fin 128) (z : Fin 2048) :
    (iblk m c 1 t : Vec Ideal S128x2048 .f32) (ix2 r z) = (m ((c : Thread nD τ).loc main_arg0) : Vec Ideal S16384x2048 .f32) (ix2 ⟨128 * (4 * min (t.val / 4 + 1) 31 + t.val % 4) + r.val, by have := lt_of_lt_of_eq t.isLt N_0; omega⟩ z) := by
  have hi := index_1 t
  unfold iblk
  rw [View.read_apply]
  show V m c main_arg0 _ = m (c.tc.loc main_arg0) _
  rw [V_main_arg0]
  congr 1
  funext a
  apply Fin.ext
  match a with
  | ⟨0, _⟩ => show win0_1.index t 0 * 128 + 1 * r.val = 128 * (4 * min (t.val / 4 + 1) 31 + t.val % 4) + r.val; rw [hi.1]; omega
  | ⟨1, _⟩ => show win0_1.index t 1 * 2048 + 1 * z.val = z.val; rw [hi.2]; omega

theorem iblk_8 (t : Fin cfg0.N) (x : Fin 2048) (z : Fin 2048) :
    (iblk m c 8 t : Vec Ideal S2048x2048 .bf16) (ix2 x z) = (m ((c : Thread nD τ).loc main_arg3) : Vec Ideal S2048x8192 .bf16) (ix2 x ⟨2048 * (t.val % 4) + z.val, by have := lt_of_lt_of_eq t.isLt N_0; omega⟩) := by
  have hi := index_8 t
  unfold iblk
  rw [View.read_apply]
  show V m c main_arg3 _ = m (c.tc.loc main_arg3) _
  rw [V_main_arg3]
  congr 1
  funext a
  apply Fin.ext
  match a with
  | ⟨0, _⟩ => show win0_8.index t 0 * 2048 + 1 * x.val = x.val; rw [hi.1]; omega
  | ⟨1, _⟩ => show win0_8.index t 1 * 2048 + 1 * z.val = 2048 * (t.val % 4) + z.val; rw [hi.2]; omega

theorem iblk_9 (t : Fin cfg0.N) (x : Fin 2048) (z : Fin 2048) :
    (iblk m c 9 t : Vec Ideal S2048x2048 .bf16) (ix2 x z) = (m ((c : Thread nD τ).loc main_arg4) : Vec Ideal S8192x2048 .bf16) (ix2 ⟨2048 * (t.val % 4) + x.val, by have := lt_of_lt_of_eq t.isLt N_0; omega⟩ z) := by
  have hi := index_9 t
  unfold iblk
  rw [View.read_apply]
  show V m c main_arg4 _ = m (c.tc.loc main_arg4) _
  rw [V_main_arg4]
  congr 1
  funext a
  apply Fin.ext
  match a with
  | ⟨0, _⟩ => show win0_9.index t 0 * 2048 + 1 * x.val = 2048 * (t.val % 4) + x.val; rw [hi.1]; omega
  | ⟨1, _⟩ => show win0_9.index t 1 * 2048 + 1 * z.val = z.val; rw [hi.2]; omega

theorem iblk_2 (t : Fin cfg0.N) (z : Fin 2048) :
    (iblk m c 2 t : Vec Ideal S1x1x2048 .f32) (ix3 0 0 z)
      = (m ((c : Thread nD τ).loc main_arg1) : Vec Ideal S8x1x8192 .f32) (ix3 ⟨t.val / 64, by have := lt_of_lt_of_eq t.isLt N_0; omega⟩ 0 ⟨2048 * 1 + z.val, by omega⟩) := by
  have hi := index_2 t
  unfold iblk
  rw [View.read_apply]
  show V m c main_arg1 _ = m (c.tc.loc main_arg1) _
  rw [V_main_arg1]
  congr 1
  funext a
  apply Fin.ext
  match a with
  | ⟨0, _⟩ => show win0_2.index t 0 * 1 + 1 * 0 = t.val / 64; rw [hi.1]; omega
  | ⟨1, _⟩ => show win0_2.index t 1 * 1 + 1 * 0 = 0; rw [hi.2.1]
  | ⟨2, _⟩ => show win0_2.index t 2 * 2048 + 1 * z.val = 2048 * 1 + z.val; rw [hi.2.2]; omega

theorem iblk_3 (t : Fin cfg0.N) (z : Fin 2048) :
    (iblk m c 3 t : Vec Ideal S1x1x2048 .f32) (ix3 0 0 z)
      = (m ((c : Thread nD τ).loc main_arg1) : Vec Ideal S8x1x8192 .f32) (ix3 ⟨t.val / 64, by have := lt_of_lt_of_eq t.isLt N_0; omega⟩ 0 ⟨2048 * 2 + z.val, by omega⟩) := by
  have hi := index_3 t
  unfold iblk
  rw [View.read_apply]
  show V m c main_arg1 _ = m (c.tc.loc main_arg1) _
  rw [V_main_arg1]
  congr 1
  funext a
  apply Fin.ext
  match a with
  | ⟨0, _⟩ => show win0_3.index t 0 * 1 + 1 * 0 = t.val / 64; rw [hi.1]; omega
  | ⟨1, _⟩ => show win0_3.index t 1 * 1 + 1 * 0 = 0; rw [hi.2.1]
  | ⟨2, _⟩ => show win0_3.index t 2 * 2048 + 1 * z.val = 2048 * 2 + z.val; rw [hi.2.2]; omega

theorem iblk_4 (t : Fin cfg0.N) (z : Fin 2048) :
    (iblk m c 4 t : Vec Ideal S1x1x2048 .f32) (ix3 0 0 z)
      = (m ((c : Thread nD τ).loc main_arg1) : Vec Ideal S8x1x8192 .f32) (ix3 ⟨min (t.val / 4 + 1) 31 / 16, by have := lt_of_lt_of_eq t.isLt N_0; omega⟩ 0 ⟨2048 * 1 + z.val, by omega⟩) := by
  have hi := index_4 t
  unfold iblk
  rw [View.read_apply]
  show V m c main_arg1 _ = m (c.tc.loc main_arg1) _
  rw [V_main_arg1]
  congr 1
  funext a
  apply Fin.ext
  match a with
  | ⟨0, _⟩ => show win0_4.index t 0 * 1 + 1 * 0 = min (t.val / 4 + 1) 31 / 16; rw [hi.1]; omega
  | ⟨1, _⟩ => show win0_4.index t 1 * 1 + 1 * 0 = 0; rw [hi.2.1]
  | ⟨2, _⟩ => show win0_4.index t 2 * 2048 + 1 * z.val = 2048 * 1 + z.val; rw [hi.2.2]; omega

theorem iblk_5 (t : Fin cfg0.N) (z : Fin 2048) :
    (iblk m c 5 t : Vec Ideal S1x1x2048 .f32) (ix3 0 0 z)
      = (m ((c : Thread nD τ).loc main_arg1) : Vec Ideal S8x1x8192 .f32) (ix3 ⟨min (t.val / 4 + 1) 31 / 16, by have := lt_of_lt_of_eq t.isLt N_0; omega⟩ 0 ⟨2048 * 2 + z.val, by omega⟩) := by
  have hi := index_5 t
  unfold iblk
  rw [View.read_apply]
  show V m c main_arg1 _ = m (c.tc.loc main_arg1) _
  rw [V_main_arg1]
  congr 1
  funext a
  apply Fin.ext
  match a with
  | ⟨0, _⟩ => show win0_5.index t 0 * 1 + 1 * 0 = min (t.val / 4 + 1) 31 / 16; rw [hi.1]; omega
  | ⟨1, _⟩ => show win0_5.index t 1 * 1 + 1 * 0 = 0; rw [hi.2.1]
  | ⟨2, _⟩ => show win0_5.index t 2 * 2048 + 1 * z.val = 2048 * 2 + z.val; rw [hi.2.2]; omega

theorem iblk_6 (t : Fin cfg0.N) (z : Fin 2048) :
    (iblk m c 6 t : Vec Ideal S1x1x2048 .f32) (ix3 0 0 z)
      = (m ((c : Thread nD τ).loc main_arg1) : Vec Ideal S8x1x8192 .f32) (ix3 ⟨t.val / 64, by have := lt_of_lt_of_eq t.isLt N_0; omega⟩ 0 ⟨2048 * 3 + z.val, by omega⟩) := by
  have hi := index_6 t
  unfold iblk
  rw [View.read_apply]
  show V m c main_arg1 _ = m (c.tc.loc main_arg1) _
  rw [V_main_arg1]
  congr 1
  funext a
  apply Fin.ext
  match a with
  | ⟨0, _⟩ => show win0_6.index t 0 * 1 + 1 * 0 = t.val / 64; rw [hi.1]; omega
  | ⟨1, _⟩ => show win0_6.index t 1 * 1 + 1 * 0 = 0; rw [hi.2.1]
  | ⟨2, _⟩ => show win0_6.index t 2 * 2048 + 1 * z.val = 2048 * 3 + z.val; rw [hi.2.2]; omega

theorem V_gain (z : Fin 2048) : (V m c main_v1 : Vec Ideal S1x2048 .f32) (ix2 0 z) = (m ((c : Thread nD τ).loc main_arg2) : Vec Ideal S1x2048 .f32) (ix2 0 z) := by
  entry_read
  pointwise

theorem V_final (z : Fin 2048) : (V m c main_v2 : Vec Ideal S1x2048 .f32) (ix2 0 z) = (m ((c : Thread nD τ).loc main_arg5) : Vec Ideal S2048 .f32) (ix1 z) := by
  entry_read
  pointwise

theorem iblk_7 (t : Fin cfg0.N) (z : Fin 2048) : (iblk m c 7 t : Vec Ideal S1x2048 .f32) (ix2 0 z) = (m ((c : Thread nD τ).loc main_arg2) : Vec Ideal S1x2048 .f32) (ix2 0 z) := by
  have hi := index_7 t
  refine Eq.trans ?_ (V_gain m c z)
  unfold iblk
  rw [View.read_apply]
  show V m c main_v1 _ = V m c main_v1 _
  congr 1
  funext a
  apply Fin.ext
  match a with
  | ⟨0, _⟩ => show win0_7.index t 0 * 1 + 1 * 0 = 0; rw [hi.1]
  | ⟨1, _⟩ => show win0_7.index t 1 * 2048 + 1 * z.val = z.val; rw [hi.2]; omega

theorem iblk_10 (t : Fin cfg0.N) (z : Fin 2048) : (iblk m c 10 t : Vec Ideal S1x2048 .f32) (ix2 0 z) = (m ((c : Thread nD τ).loc main_arg5) : Vec Ideal S2048 .f32) (ix1 z) := by
  have hi := index_10 t
  refine Eq.trans ?_ (V_final m c z)
  unfold iblk
  rw [View.read_apply]
  show V m c main_v2 _ = V m c main_v2 _
  congr 1
  funext a
  apply Fin.ext
  match a with
  | ⟨0, _⟩ => show win0_10.index t 0 * 1 + 1 * 0 = 0; rw [hi.1]
  | ⟨1, _⟩ => show win0_10.index t 1 * 2048 + 1 * z.val = z.val; rw [hi.2]; omega

end Cert.Kernel2Ideal.Gen
end
-- ==== Proof.Mlp.Ideal.Output.lean ====
module

public import proofs.«01_k».proof.Proof.Mlp.Ideal.Blocks
public import Idealize.ShloMosaic.Lib.Pipeline.ValueKit

/-! The output array: what the points leave is the specification's rows. -/

@[expose] public section

set_option maxRecDepth 16384

noncomputable section

namespace Cert.Kernel2Ideal.Gen

open Idealize.ShloMosaic Idealize.ShloMosaic.TcCoe Idealize.SL.Sem Cert.Mlp

variable (m : (ℓ : Loc nD τ sig) → Buf (Elt Ideal) ℓ) (c : Dev nD)

abbrev argX : Vec Ideal S16384x2048 .f32 := m ((c : Thread nD τ).loc main_arg0)
abbrev argM : Vec Ideal S8x1x8192 .f32 := m ((c : Thread nD τ).loc main_arg1)
abbrev argG : Vec Ideal S1x2048 .f32 := m ((c : Thread nD τ).loc main_arg2)
abbrev argA : Vec Ideal S2048x8192 .bf16 := m ((c : Thread nD τ).loc main_arg3)
abbrev argB : Vec Ideal S8192x2048 .bf16 := m ((c : Thread nD τ).loc main_arg4)
abbrev argE : Vec Ideal S2048 .f32 := m ((c : Thread nD τ).loc main_arg5)

/-- Row `r` of tile `g`. -/
abbrev tileRow (g : ℕ) (hg : g < 32) (r : Fin 512) : Fin 16384 := ⟨512 * g + r.val, by omega⟩

theorem part_eq (n : Fin 16384) (p : Fin 4) (k : Fin 2048) (b : Fin 8) (hb : b.val = n.val / 8192) (q : Fin 8192) (hq : q.val = 2048 * p.val + k.val) :
    (argM m c (ix3 b 0 q) : EReal) = part (argM m c) n p k := by
  unfold part
  congr 2
  · exact Fin.ext hb
  · exact Fin.ext hq

theorem modulated_congr {x x' g g' sc sc' sh sh' : Fin 2048 → EReal} (h1 : x = x') (h2 : g = g') (h3 : sc = sc') (h4 : sh = sh') (k : Fin 2048) :
    modulated x g sc sh k = modulated x' g' sc' sh' k := by rw [h1, h2, h3, h4]

theorem slab_value (g : ℕ) (hg : g + 1 < 32) (q : ℕ) (hq : q < 4) (r : Fin 128) (k : Fin 2048) (n : Fin 16384) (hn : n.val = 512 * (g + 1) + 128 * q + r.val) :
    (slab m c (4 * g + q) (ix2 r k) : EReal) = hiddenRow (argX m c) (argM m c) (argG m c) n k := by
  have hp : (pt (4 * g + q)).val = 4 * g + q := Nat.mod_eq_of_lt (by omega)
  unfold slab hiddenRow
  refine (pay8_value _ _ _ _ r k).trans (modulated_congr ?_ ?_ ?_ ?_ k)
  · funext i
    refine (iblk_1 m c _ r i).trans (congrArg (argX m c) ?_)
    congr 1
    exact Fin.ext (by simp only [hp]; omega)
  · funext i
    exact iblk_7 m c _ i
  · funext i
    exact (iblk_5 m c _ i).trans (part_eq m c n 2 i _ (by simp only [hp]; omega) _ rfl)
  · funext i
    exact (iblk_4 m c _ i).trans (part_eq m c n 1 i _ (by simp only [hp]; omega) _ rfl)

theorem tile_value : ∀ (g : ℕ) (hg : g < 32) (r : Fin 512) (k : Fin 2048),
    (tile m c g (ix2 r k) : EReal) = hiddenRow (argX m c) (argM m c) (argG m c) (tileRow g hg r) k
  | 0, hg, r, k => by
    have hp : (pt 0).val = 0 := rfl
    unfold tile hiddenRow
    refine (pay1_value _ _ _ _ r k).trans (modulated_congr ?_ ?_ ?_ ?_ k)
    · funext i
      refine (iblk_0 m c _ (.inr hp) r i).trans (congrArg (argX m c) ?_)
      congr 1
    · funext i
      exact iblk_7 m c _ i
    · funext i
      exact (iblk_3 m c _ i).trans (part_eq m c _ 2 i _ (by simp only [hp]; omega) _ rfl)
    · funext i
      exact (iblk_2 m c _ i).trans (part_eq m c _ 1 i _ (by simp only [hp]; omega) _ rfl)
  | g + 1, hg, r, k => by
    unfold tile
    refine (pay5_value _ r k).trans ?_
    exact slab_value m c g hg (r.val / 128) (by omega) ⟨r.val % 128, Nat.mod_lt _ (by decide)⟩ k _ (by simp only; omega)

theorem unit_congr {h h' w w' : Fin 2048 → EReal} {v v' : EReal} (h1 : h = h') (h2 : w = w') (h3 : v = v') : unit h w v = unit h' w' v' := by
  rw [h1, h2, h3]

theorem block_value (g : ℕ) (hg : g < 32) (j : Fin 4) (r : Fin 512) (k : Fin 2048) :
    blockSum (tile m c g) (iblk m c 8 (pt (4 * g + j.val))) (iblk m c 9 (pt (4 * g + j.val))) r k
      = ∑ z, summand (argX m c) (argM m c) (argG m c) (argA m c) (argB m c) (tileRow g hg r) k (hid j z) := by
  have hp : (pt (4 * g + j.val)).val = 4 * g + j.val := Nat.mod_eq_of_lt (by omega)
  unfold blockSum summand
  refine Finset.sum_congr rfl fun z _ => unit_congr ?_ ?_ ?_
  · funext i
    exact tile_value m c g hg r i
  · funext i
    refine (iblk_8 m c _ i z).trans (congrArg (argA m c) ?_)
    congr 1
    exact Fin.ext (by simp only [hp]; omega)
  · refine (iblk_9 m c _ z k).trans (congrArg (argB m c) ?_)
    congr 1
    exact Fin.ext (by simp only [hp]; omega)

/-- A block's sum for the row `r` of tile `g`. -/
abbrev blk (g : ℕ) (hg : g < 32) (j : Fin 4) (r : Fin 512) (k : Fin 2048) : EReal :=
  ∑ z, summand (argX m c) (argM m c) (argG m c) (argA m c) (argB m c) (tileRow g hg r) k (hid j z)

theorem after_0 (g : ℕ) (hg : g < 32) (r : Fin 512) (k : Fin 2048) : (outAfter m c (4 * g) (ix2 r k) : EReal) = blk m c g hg 0 r k := by
  rw [outAfter_begin m c _ (by omega)]
  unfold begun
  rw [show 4 * g / 4 = g by omega]
  exact (pay2_value _ _ _ r k).trans (block_value m c g hg 0 r k)

theorem after_add (g : ℕ) (hg : g < 32) (j : Fin 4) (h0 : j.val ≠ 0) (h3 : j.val ≠ 3) (r : Fin 512) (k : Fin 2048) :
    (outAfter m c (4 * g + j.val) (ix2 r k) : EReal) = outAfter m c (4 * g + j.val - 1) (ix2 r k) + blk m c g hg j r k := by
  rw [outAfter_middle m c _ (by omega) (by omega)]
  unfold added
  rw [show (4 * g + j.val) / 4 = g by omega]
  exact (pay3_value _ _ _ _ r k).trans (congrArg _ (block_value m c g hg j r k))

theorem after_2 (g : ℕ) (hg : g < 32) (r : Fin 512) (k : Fin 2048) :
    (outAfter m c (4 * g + 2) (ix2 r k) : EReal) = blk m c g hg 0 r k + blk m c g hg 1 r k + blk m c g hg 2 r k := by
  have h1 := after_add m c g hg 1 (by decide) (by decide) r k
  have h2 := after_add m c g hg 2 (by decide) (by decide) r k
  exact h2.trans (congrArg (· + blk m c g hg 2 r k) (h1.trans (congrArg (· + blk m c g hg 1 r k) (after_0 m c g hg r k))))

theorem normed_congr {a a' b b' : Fin 2048 → EReal} (h1 : a = a') (h2 : b = b') (k : Fin 2048) : normed a b k = normed a' b' k := by
  rw [h1, h2]

/-- What a tile's last point leaves. -/
theorem after_3 (g : ℕ) (hg : g < 32) (r : Fin 512) (k : Fin 2048) :
    (outAfter m c (4 * g + 3) (ix2 r k) : EReal)
      = result (argX m c) (argM m c) (argG m c) (argA m c) (argB m c) (argE m c) (ix2 (tileRow g hg r) k) := by
  have hp : (pt (4 * g + 3)).val = 4 * g + 3 := Nat.mod_eq_of_lt (by omega)
  rw [outAfter_last m c _ (by omega)]
  unfold ended
  rw [show (4 * g + 3) / 4 = g by omega]
  refine (pay4_value _ _ _ _ _ _ _ r k).trans (normed_congr ?_ ?_ k)
  · funext i
    show _ = withMlp (argX m c) (argM m c) (argG m c) (argA m c) (argB m c) (tileRow g hg r) i
    unfold withMlp
    refine congrArg₂ (· + ·) ?_ (congrArg₂ (· * ·) ?_ ?_)
    · refine (iblk_0 m c _ (.inl (by simp only [hp]; omega)) r i).trans (congrArg (argX m c) ?_)
      congr 1
      exact Fin.ext (by simp only [hp]; omega)
    · exact (iblk_6 m c _ i).trans (part_eq m c _ 3 i _ (by simp only [hp]; omega) _ rfl)
    · rw [sum_blocks]
      exact congrArg₂ (· + ·) (after_2 m c g hg r i) (block_value m c g hg 3 r i)
  · funext i
    exact iblk_10 m c _ i

theorem flush_11 : ∀ t : Fin cfg0.N, (cfg0.win 11).flush t = true → t.val % 4 = 3 :=
  (by decide +kernel : ∀ t : Fin grid0.N, win0_11.flush t = true → t.val % 4 = 3)

theorem output : (dats m 0 c).arrAt 11 cfg0.N = result (argX m c) (argM m c) (argG m c) (argA m c) (argB m c) (argE m c) := by
  refine (dats m 0 c).arrAt_eq_of_covers 11 _ (by decide +kernel) fun t hf y => ?_
  have h3 := flush_11 t hf
  have ht := lt_of_lt_of_eq t.isLt N_0
  have hi := index_11 t
  blk_simp
  rw [after0_11]
  have hy : ∀ x : S512x2048.Idx, outAfter m c t.val x = result (argX m c) (argM m c) (argG m c) (argA m c) (argB m c) (argE m c) ((win0_11.blk t).view.emb x) := by
    intro x
    have e : x = ix2 (x 0) (x 1) := by
      funext a
      match a with
      | ⟨0, _⟩ => rfl
      | ⟨1, _⟩ => rfl
    have et : t.val = 4 * (t.val / 4) + 3 := by omega
    refine (congrArg _ e).trans ((congrArg (fun n => outAfter m c n (ix2 (x 0) (x 1))) et).trans
      ((after_3 m c (t.val / 4) (by omega) (x 0) (x 1)).trans (congrArg (result _ _ _ _ _ _) ?_)))
    funext a
    apply Fin.ext
    match a with
    | ⟨0, _⟩ => show 512 * (t.val / 4) + (x 0).val = win0_11.index t 0 * 512 + 1 * (x 0).val; rw [hi.1]; omega
    | ⟨1, _⟩ => show (x 1).val = win0_11.index t 1 * 2048 + 1 * (x 1).val; rw [hi.2]; omega
  exact hy y

end Cert.Kernel2Ideal.Gen
end
-- ==== Proof.Mlp.Reference.lean ====
module

public import proofs.«01_k».proof.Proof.Mlp.ReferenceFrame
public import proofs.«01_k».proof.Proof.Mlp.Row

/-! The reference's result, stage by stage and entry by entry. -/

@[expose] public section

set_option maxRecDepth 16384

noncomputable section

namespace Cert.Reference2Ideal.Value

open Cert.Reference2Ideal Cert.Reference2Ideal.Gen Idealize.ShloMosaic Idealize.ShloMosaic.TcCoe Idealize.SL.Sem Idealize.ShloMosaic.StableHlo Cert.Mlp

section

variable {F : FTy → Type} [FloatOps F]

/-- The rows by sequence. -/
def rows (X : FVec F S16384x2048 .f32) : FVec F S2x8192x2048 .f32 := shapeCast _ X shapeCasts_S16384x2048_S2x8192x2048

/-- The rows' factors. -/
def scales (x : FVec F S2x8192x2048 .f32) : FVec F S2x8192x1 .f32 :=
  Host.rsqrt (addf (Host.divf (broadcastInDim S2x8192x1 ![0, 1] bcast_S2x8192_S2x8192x1_0_1 (Host.reduceAdd (mulf x x) (constant S_ .f32 0x00000000#32) reducesTo_S2x8192x2048_S2x8192_d2 h_S_)) (broadcastInDim S2x8192x1 ![] bcast_S_S2x8192x1 (constant S_ .f32 0x45000000#32))) (broadcastInDim S2x8192x1 ![] bcast_S_S2x8192x1 (constant S_ .f32 0x358637BD#32)))

/-- The modulation's rows in use. -/
def mods (M : FVec F S8x1x8192 .f32) : FVec F S2x8192 .f32 :=
  shapeCast _ (extractStridedSlice S2x1x8192 ![0, 0, 0] M slices_S8x1x8192_S2x1x8192_0_0_0) shapeCasts_S2x1x8192_S2x8192

def shift (M : FVec F S8x1x8192 .f32) : FVec F S2x1x2048 .f32 :=
  broadcastInDim S2x1x2048 ![0, 2] bcast_S2x2048_S2x1x2048_0_2 (extractStridedSlice S2x2048 ![0, 2048] (mods M) slices_S2x8192_S2x2048_0_2048)
def gain (M : FVec F S8x1x8192 .f32) : FVec F S2x1x2048 .f32 :=
  broadcastInDim S2x1x2048 ![0, 2] bcast_S2x2048_S2x1x2048_0_2 (extractStridedSlice S2x2048 ![0, 4096] (mods M) slices_S2x8192_S2x2048_0_4096)
def gate (M : FVec F S8x1x8192 .f32) : FVec F S2x1x2048 .f32 :=
  broadcastInDim S2x1x2048 ![0, 2] bcast_S2x2048_S2x1x2048_0_2 (extractStridedSlice S2x2048 ![0, 6144] (mods M) slices_S2x8192_S2x2048_0_6144)

/-- The modulated norm. -/
def normal (x : FVec F S2x8192x2048 .f32) (sh sc : FVec F S2x1x2048 .f32) (G : FVec F S1x2048 .f32) : FVec F S2x8192x2048 .f32 :=
  addf (mulf (mulf (mulf x (broadcastInDim S2x8192x2048 ![0, 1, 2] bcast_S2x8192x1_S2x8192x2048_0_1_2 (scales x))) (broadcastInDim S2x8192x2048 ![0, 1, 2] bcast_S1x1x2048_S2x8192x2048_0_1_2 (broadcastInDim S1x1x2048 ![2] bcast_S2048_S1x1x2048_2 (shapeCast _ G shapeCasts_S1x2048_S2048)))) (broadcastInDim S2x8192x2048 ![0, 1, 2] bcast_S2x1x2048_S2x8192x2048_0_1_2 (addf (broadcastInDim S2x1x2048 ![] bcast_S_S2x1x2048 (constant S_ .f32 0x3F800000#32)) sc))) (broadcastInDim S2x8192x2048 ![0, 1, 2] bcast_S2x1x2048_S2x8192x2048_0_1_2 sh)

/-- The hidden units' positive parts. -/
def units (h : FVec F S2x8192x2048 .f32) (W1 : FVec F S2048x8192 .bf16) : FVec F S2x8192x8192 .f32 :=
  maximumf (Host.dotGeneral dot_S2x8192x2048_S2048x8192_S2x8192x8192_2_0_01_1_n_n none h (extf .f32 W1 bitsLt_bf16_f32)) (broadcastInDim S2x8192x8192 ![] bcast_S_S2x8192x8192 (constant S_ .f32 0x00000000#32))

/-- The rows with the MLP added. -/
def summed (x : FVec F S2x8192x2048 .f32) (gt : FVec F S2x1x2048 .f32) (u : FVec F S2x8192x8192 .f32) (W2 : FVec F S8192x2048 .bf16) : FVec F S2x8192x2048 .f32 :=
  addf x (mulf (broadcastInDim S2x8192x2048 ![0, 1, 2] bcast_S2x1x2048_S2x8192x2048_0_1_2 gt) (Host.dotGeneral dot_S2x8192x8192_S8192x2048_S2x8192x2048_2_0_01_1_n_n none (mulf u u) (extf .f32 W2 bitsLt_bf16_f32)))

/-- The final norm. -/
def final (r : FVec F S2x8192x2048 .f32) (E : FVec F S2048 .f32) : FVec F S16384x2048 .f32 :=
  shapeCast _ (mulf (mulf r (broadcastInDim S2x8192x2048 ![0, 1, 2] bcast_S2x8192x1_S2x8192x2048_0_1_2 (scales r))) (broadcastInDim S2x8192x2048 ![0, 1, 2] bcast_S1x1x2048_S2x8192x2048_0_1_2 (broadcastInDim S1x1x2048 ![2] bcast_S2048_S1x1x2048_2 E))) shapeCasts_S2x8192x2048_S16384x2048

/-- The stages in a row. -/
def staged (X : FVec F S16384x2048 .f32) (M : FVec F S8x1x8192 .f32) (G : FVec F S1x2048 .f32) (W1 : FVec F S2048x8192 .bf16)
    (W2 : FVec F S8192x2048 .bf16) (E : FVec F S2048 .f32) : FVec F S16384x2048 .f32 :=
  final (summed (rows X) (gate M) (units (normal (rows X) (shift M) (gain M) G) W1) W2) E

theorem result_staged (m : (ℓ : Loc nD τ sig) → Buf (Elt F) ℓ) (c : Dev nD) :
    res_main_v53 m c = staged (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  unfold res_main_v53 staged final summed units normal gate gain shift mods scales rows
  rfl

end

abbrev row (b : Fin 2) (n : Fin 8192) : Fin 16384 := ⟨b.val * 8192 + n.val, by omega⟩

theorem rows_value (X : Vec Ideal S16384x2048 .f32) (b : Fin 2) (n : Fin 8192) (k : Fin 2048) :
    (rows (F := Ideal) X (ix3 b n k) : EReal) = X (ix2 (row b n) k) := by
  unfold rows
  pointwise

theorem scales_value (x : Vec Ideal S2x8192x2048 .f32) (b : Fin 2) (n : Fin 8192) :
    (scales (F := Ideal) x (ix3 b n 0) : EReal) = scale fun k => x (ix3 b n k) := by
  unfold scales scale
  pointwise

theorem shift_value (M : Vec Ideal S8x1x8192 .f32) (b : Fin 2) (k : Fin 2048) :
    (shift (F := Ideal) M (ix3 b 0 k) : EReal) = M (ix3 ⟨b.val, by omega⟩ 0 ⟨2048 + k.val, by omega⟩) := by
  unfold shift mods
  pointwise

theorem gain_value (M : Vec Ideal S8x1x8192 .f32) (b : Fin 2) (k : Fin 2048) :
    (gain (F := Ideal) M (ix3 b 0 k) : EReal) = M (ix3 ⟨b.val, by omega⟩ 0 ⟨4096 + k.val, by omega⟩) := by
  unfold gain mods
  pointwise

theorem gate_value (M : Vec Ideal S8x1x8192 .f32) (b : Fin 2) (k : Fin 2048) :
    (gate (F := Ideal) M (ix3 b 0 k) : EReal) = M (ix3 ⟨b.val, by omega⟩ 0 ⟨6144 + k.val, by omega⟩) := by
  unfold gate mods
  pointwise

theorem normal_value (x : Vec Ideal S2x8192x2048 .f32) (sh sc : Vec Ideal S2x1x2048 .f32) (G : Vec Ideal S1x2048 .f32) (b : Fin 2) (n : Fin 8192) (k : Fin 2048) :
    (normal (F := Ideal) x sh sc G (ix3 b n k) : EReal)
      = modulated (fun i => x (ix3 b n i)) (fun i => G (ix2 0 i)) (fun i => sc (ix3 b 0 i)) (fun i => sh (ix3 b 0 i)) k := by
  unfold normal modulated
  pointwise
  rw [scales_value]

theorem units_value (h : Vec Ideal S2x8192x2048 .f32) (W1 : Vec Ideal S2048x8192 .bf16) (b : Fin 2) (n z : Fin 8192) :
    (units (F := Ideal) h W1 (ix3 b n z) : EReal) = max (∑ i, (h (ix3 b n i) : EReal) * W1 (ix2 i z)) 0 := by
  unfold units
  pointwise

theorem summed_value (x : Vec Ideal S2x8192x2048 .f32) (gt : Vec Ideal S2x1x2048 .f32) (u : Vec Ideal S2x8192x8192 .f32) (W2 : Vec Ideal S8192x2048 .bf16)
    (b : Fin 2) (n : Fin 8192) (k : Fin 2048) :
    (summed (F := Ideal) x gt u W2 (ix3 b n k) : EReal) = (x (ix3 b n k) : EReal) + gt (ix3 b 0 k) * ∑ z, (u (ix3 b n z) : EReal) * u (ix3 b n z) * W2 (ix2 z k) := by
  unfold summed
  pointwise

/-- The sequence of a row, and its position there. -/
abbrev seqOf (n : Fin 16384) : Fin 2 := ⟨n.val / 8192, by omega⟩
abbrev placeOf (n : Fin 16384) : Fin 8192 := ⟨n.val % 8192, by omega⟩

theorem row_place (n : Fin 16384) : row (seqOf n) (placeOf n) = n := Fin.ext (by show n.val / 8192 * 8192 + n.val % 8192 = n.val; omega)

theorem final_value (r : Vec Ideal S2x8192x2048 .f32) (E : Vec Ideal S2048 .f32) (n : Fin 16384) (k : Fin 2048) :
    (final (F := Ideal) r E (ix2 n k) : EReal) = normed (fun i => r (ix3 (seqOf n) (placeOf n) i)) (fun i => E (ix1 i)) k := by
  unfold final normed
  pointwise
  rw [scales_value]

theorem staged_value (X : Vec Ideal S16384x2048 .f32) (M : Vec Ideal S8x1x8192 .f32) (G : Vec Ideal S1x2048 .f32) (W1 : Vec Ideal S2048x8192 .bf16)
    (W2 : Vec Ideal S8192x2048 .bf16) (E : Vec Ideal S2048 .f32) : staged (F := Ideal) X M G W1 W2 E = result X M G W1 W2 E := by
  have key : ∀ (n : Fin 16384) (k : Fin 2048), staged (F := Ideal) X M G W1 W2 E (ix2 n k) = result X M G W1 W2 E (ix2 n k) := by
    intro n k
    unfold staged
    refine (final_value _ _ n k).trans ?_
    simp only [summed_value, units_value, normal_value, rows_value, row_place, shift_value, gain_value, gate_value]
    rfl
  funext y
  have e : y = ix2 (y 0) (y 1) := by
    funext a
    match a with
    | ⟨0, _⟩ => rfl
    | ⟨1, _⟩ => rfl
  rw [e]
  exact key (y 0) (y 1)

end Cert.Reference2Ideal.Value
end
-- ==== Proof.Mlp.Value.lean ====
module

public import proofs.«01_k».proof.Defs
public import proofs.«01_k».proof.Proof.Mlp.Ideal.Output
public import proofs.«01_k».proof.Proof.Mlp.Reference
public import Idealize.ShloMosaic.Lib.Claim

/-! The MLP call's result is the reference's. -/

@[expose] public section

set_option maxRecDepth 16384

noncomputable section

namespace Cert.Mlp

open Idealize.ShloMosaic Idealize.ShloMosaic.TcCoe Idealize.SL.Sem

theorem algebraic : Cert.algebraic_Kernel2Ideal_Reference2Ideal := by
  intro m g m' g' _ hagree
  refine ⟨fun c => result (m ((c.tc : Thread Cert.Kernel2Ideal.nD Cert.Kernel2Ideal.τ).loc Cert.Kernel2Ideal.main_arg0))
    (m ((c.tc : Thread Cert.Kernel2Ideal.nD Cert.Kernel2Ideal.τ).loc Cert.Kernel2Ideal.main_arg1))
    (m ((c.tc : Thread Cert.Kernel2Ideal.nD Cert.Kernel2Ideal.τ).loc Cert.Kernel2Ideal.main_arg2))
    (m ((c.tc : Thread Cert.Kernel2Ideal.nD Cert.Kernel2Ideal.τ).loc Cert.Kernel2Ideal.main_arg3))
    (m ((c.tc : Thread Cert.Kernel2Ideal.nD Cert.Kernel2Ideal.τ).loc Cert.Kernel2Ideal.main_arg4))
    (m ((c.tc : Thread Cert.Kernel2Ideal.nD Cert.Kernel2Ideal.τ).loc Cert.Kernel2Ideal.main_arg5)), ?_, ?_⟩
  · have h := θ_run_and (Cert.Kernel2Ideal.Gen.run_main m g) (Cert.Kernel2Ideal.Gen.frame m g)
    exact (θ_run _ _ _).mono (fun r h c => ⟨((h.1 c).1 11).trans (Cert.Kernel2Ideal.Gen.output m c), h.2.1 c⟩) h
  · refine (θ_run _ _ _).mono (fun r h c => ⟨(h c).1.trans ((Cert.Reference2Ideal.Value.result_staged m' c).trans ?_), (h c).2⟩)
      (Cert.Reference2Ideal.Value.run m' g')
    obtain ⟨e0, e1, e2, e3, e4, e5⟩ := hagree c
    rw [e0, e1, e2, e3, e4, e5]
    exact Cert.Reference2Ideal.Value.staged_value _ _ _ _ _ _

end Cert.Mlp
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Word.Frame
public import proofs.«01_k».proof.Proof.Ideal.Frame
public import proofs.«01_k».proof.Proof.Host.Frame
public import proofs.«01_k».proof.Proof.Forward
public import proofs.«01_k».proof.Proof.Mlp.Word.Frame
public import proofs.«01_k».proof.Proof.Mlp.Ideal.Frame
public import proofs.«01_k».proof.Proof.Mlp.ReferenceFrame
public import proofs.«01_k».proof.Proof.Mlp.Value
public import proofs.«01_k».proof.Proof.Gen.Kernel2Ideal.Frame
public import proofs.«01_k».proof.Proof.Gen.Kernel2Ideal.Skeleton
public import proofs.«01_k».proof.Proof.Gen.Kernel2.Frame
public import proofs.«01_k».proof.Proof.Gen.Kernel2.Skeleton
public import proofs.«01_k».proof.Proof.Gen.Reference2Ideal.Run
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Forward.facts,
  fun m ρ _ => Cert.Kernel.Gen.frame m ρ,
  fun m ρ _ => Cert.KernelIdeal.Gen.frame m ρ,
  fun m ρ _ => Cert.KernelIdeal.Gen.frame m ρ,
  fun m ρ _ => Cert.ReferenceIdeal.Value.frame m ρ,
  fun m ρ _ => Cert.ReferenceIdeal.Value.frame m ρ,
  fun m ρ _ => Cert.Kernel2.Gen.frame m ρ,
  fun m ρ _ => Cert.Kernel2Ideal.Gen.frame m ρ,
  fun m ρ _ => Cert.Reference2Ideal.Value.frame m ρ,
  IdealRules.named_const.statement _ _ _ _ _ rfl,
  @Cert.Forward.algebraic Cert.Forward.facts,
  trivial,
  Cert.Mlp.algebraic⟩

end Cert.Proof

end
